-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_memory [hPre_finite_memory : Cert.Pre_finite_memory.Facts] (m : (ℓ : Loc Cert.KernelIdeal.nD Cert.KernelIdeal.τ Cert.KernelIdeal.sig) → Buf (Elt Ideal) ℓ) : Prop :=
  ∀ c : Dev Cert.KernelIdeal.nD,
    (Cert.Pre_finite_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_memory [hPre_finite_memory : Cert.Pre_finite_memory.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_memory [hKernelIdeal : Cert.KernelIdeal.Facts] [hPre_finite_memory : Cert.Pre_finite_memory.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_memory m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_memory [hReferenceIdeal : Cert.ReferenceIdeal.Facts] [hPre_finite_memory : Cert.Pre_finite_memory.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_memory m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "sqrt2" .f32 0x3FB504F3#32 ((Real.sqrt 2 : ℝ) : EReal)

def algebraic_KernelIdeal_ReferenceIdeal_pre_finite_memory [hKernelIdeal : Cert.KernelIdeal.Facts] [hReferenceIdeal : Cert.ReferenceIdeal.Facts] [hPre_finite_memory : Cert.Pre_finite_memory.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_memory m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_memory : Cert.Pre_finite_memory.Facts),
    quiescent_Kernel (hKernel := hKernel)
    ∧ quiescent_KernelIdeal (hKernelIdeal := hKernelIdeal)
    ∧ quiescent_KernelIdeal_pre_finite_memory (hKernelIdeal := hKernelIdeal) (hPre_finite_memory := hPre_finite_memory)
    ∧ quiescent_ReferenceIdeal (hReferenceIdeal := hReferenceIdeal)
    ∧ quiescent_ReferenceIdeal_pre_finite_memory (hReferenceIdeal := hReferenceIdeal) (hPre_finite_memory := hPre_finite_memory)
    ∧ preserves_Kernel_KernelIdeal
    ∧ algebraic_KernelIdeal_ReferenceIdeal_pre_finite_memory (hKernelIdeal := hKernelIdeal) (hReferenceIdeal := hReferenceIdeal) (hPre_finite_memory := hPre_finite_memory)
-- ==== Pre_finite_memory.lean ====
abbrev S8x8192x64 : Shape := ⟨3, ![8, 8192, 64]⟩
abbrev S8x8x64 : Shape := ⟨3, ![8, 8, 64]⟩
abbrev S8x8 : Shape := ⟨2, ![8, 8]⟩
abbrev S64x64 : Shape := ⟨2, ![64, 64]⟩
abbrev S64 : Shape := ⟨1, ![64]⟩
abbrev S8192 : Shape := ⟨1, ![8192]⟩
abbrev S1x8192 : Shape := ⟨2, ![1, 8192]⟩
abbrev S_ : Shape := ⟨0, ![]⟩

class Facts : Prop where
  bcast_S_S8x8192x64 : S_.BroadcastsInDim S8x8192x64 (![] : Fin 0 → Fin S8x8192x64.rank)
  reducesTo_S8x8192x64_S_d0_1_2 : S8x8192x64.ReducesTo [0, 1, 2] S_
  h_S_ : 0 < S_.numel

variable [Facts]

def fn {F : FTy → Type} [FloatOps F] (main_arg0 : FVec F S8x8192x64 .f32) (main_arg1 : FVec F S8x8x64 .f32) (main_arg2 : FVec F S8x8x64 .f32) (main_arg3 : FVec F S8x8 .f32) (main_arg4 : FVec F S8x8 .f32) (main_arg5 : FVec F S8x8 .f32) (main_arg6 : FVec F S64x64 .f32) (main_arg7 : FVec F S64 .f32) (main_arg8 : FVec F S64x64 .f32) (main_arg9 : FVec F S64 .f32) (main_arg10 : FVec F S8192 .f32) (main_arg11 : FVec F S1x8192 .f32) : IVec S_ 1 :=
  let main_v0 : FVec F S8x8192x64 .f32 := Host.absf main_arg0
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_c : IVec S_ 1 := constantI S_ 1 1#1
  let main_v3 : IVec S_ 1 := (fun x v => Host.reduce IntOp.andi x v reducesTo_S8x8192x64_S_d0_1_2 h_S_) main_v2 main_c
  main_v3
-- ==== Kernel.lean ====
abbrev S8x8192x64 : Shape := ⟨3, ![8, 8192, 64]⟩
abbrev S8x8x64 : Shape := ⟨3, ![8, 8, 64]⟩
abbrev S8x8 : Shape := ⟨2, ![8, 8]⟩
abbrev S64x64 : Shape := ⟨2, ![64, 64]⟩
abbrev S64 : Shape := ⟨1, ![64]⟩
abbrev S8192 : Shape := ⟨1, ![8192]⟩
abbrev S1x8192 : Shape := ⟨2, ![1, 8192]⟩
abbrev S8x8x1 : Shape := ⟨3, ![8, 8, 1]⟩
abbrev S1x64 : Shape := ⟨2, ![1, 64]⟩
abbrev S8x8x8192 : Shape := ⟨3, ![8, 8, 8192]⟩
abbrev S1x8192x64 : Shape := ⟨3, ![1, 8192, 64]⟩
abbrev S1x8x8192 : Shape := ⟨3, ![1, 8, 8192]⟩
abbrev S1x8x64 : Shape := ⟨3, ![1, 8, 64]⟩
abbrev S8x64 : Shape := ⟨2, ![8, 64]⟩
abbrev S1x8x1 : Shape := ⟨3, ![1, 8, 1]⟩
abbrev S8x1 : Shape := ⟨2, ![8, 1]⟩
abbrev S8 : Shape := ⟨1, ![8]⟩
abbrev S8192x64 : Shape := ⟨2, ![8192, 64]⟩
abbrev S8192x1 : Shape := ⟨2, ![8192, 1]⟩
abbrev S8x8192 : Shape := ⟨2, ![8, 8192]⟩
abbrev S1x1x8192 : Shape := ⟨3, ![1, 1, 8192]⟩
abbrev S1 : Shape := ⟨1, ![1]⟩
abbrev S1x1x1 : Shape := ⟨3, ![1, 1, 1]⟩

abbrev nBuf : Space → Nat
  | .hbm => 20
  | .vmem => 17
  | .smem => 0
  | _ => 0

abbrev bufTy : (tb : Table) → Fin (tcTables nBuf tb) → BufTy
  | .hbm, ⟨0, _⟩ => ⟨S8x8192x64, .f32⟩
  | .hbm, ⟨1, _⟩ => ⟨S8x8x64, .f32⟩
  | .hbm, ⟨2, _⟩ => ⟨S8x8x64, .f32⟩
  | .hbm, ⟨3, _⟩ => ⟨S8x8, .f32⟩
  | .hbm, ⟨4, _⟩ => ⟨S8x8, .f32⟩
  | .hbm, ⟨5, _⟩ => ⟨S8x8, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S8192, .f32⟩
  | .hbm, ⟨11, _⟩ => ⟨S1x8192, .f32⟩
  | .hbm, ⟨12, _⟩ => ⟨S8x8x1, .f32⟩
  | .hbm, ⟨13, _⟩ => ⟨S8x8x1, .f32⟩
  | .hbm, ⟨14, _⟩ => ⟨S8x8x1, .f32⟩
  | .hbm, ⟨15, _⟩ => ⟨S1x64, .f32⟩
  | .hbm, ⟨16, _⟩ => ⟨S1x64, .f32⟩
  | .hbm, ⟨17, _⟩ => ⟨S1x8192, .f32⟩
  | .hbm, ⟨18, _⟩ => ⟨S8x8192x64, .f32⟩
  | .hbm, ⟨19, _⟩ => ⟨S8x8x8192, .f32⟩
  | .local _ .vmem, ⟨0, _⟩ => ⟨S1x8192x64, .f32⟩
  | .local _ .vmem, ⟨1, _⟩ => ⟨S1x8192x64, .f32⟩
  | .local _ .vmem, ⟨2, _⟩ => ⟨S8x8x64, .f32⟩
  | .local _ .vmem, ⟨3, _⟩ => ⟨S8x8x64, .f32⟩
  | .local _ .vmem, ⟨4, _⟩ => ⟨S8x8x1, .f32⟩
  | .local _ .vmem, ⟨5, _⟩ => ⟨S8x8x1, .f32⟩
  | .local _ .vmem, ⟨6, _⟩ => ⟨S8x8x1, .f32⟩
  | .local _ .vmem, ⟨7, _⟩ => ⟨S64x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S1x8192, .f32⟩
  | .local _ .vmem, ⟨12, _⟩ => ⟨S1x8192, .f32⟩
  | .local _ .vmem, ⟨13, _⟩ => ⟨S1x8192x64, .f32⟩
  | .local _ .vmem, ⟨14, _⟩ => ⟨S1x8192x64, .f32⟩
  | .local _ .vmem, ⟨15, _⟩ => ⟨S1x8x8192, .f32⟩
  | .local _ .vmem, ⟨16, _⟩ => ⟨S1x8x8192, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_v0_0 : Ref sig .tc := ⟨.hbm, 18, rfl⟩
abbrev main_v0_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let v0 : Index := Scalar.indexCast arg0
  let c0 : Index := 0#32
  let c0_0 : Index := 0#32
  ![v0.toNat, 0, 0]
def k0_off2 (i : grid0.Coords) : Fin 3 → Nat :=
  let arg0 : BitVec 32 := BitVec.ofNat 32 (i 0).val
  let v6 : Index := Scalar.indexCast arg0
  let c0_3 : Index := 0#32
  let c0_4 : Index := 0#32
  ![v6.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x8192x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x8192 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "sqrt2" => some ((Real.sqrt 2 : ℝ) : EReal)
  | _ => none
-- ==== ReferenceIdeal.lean ====
abbrev S8x8192x64 : Shape := ⟨3, ![8, 8192, 64]⟩
abbrev S8x8x64 : Shape := ⟨3, ![8, 8, 64]⟩
abbrev S8x8 : Shape := ⟨2, ![8, 8]⟩
abbrev S64x64 : Shape := ⟨2, ![64, 64]⟩
abbrev S64 : Shape := ⟨1, ![64]⟩
abbrev S8192 : Shape := ⟨1, ![8192]⟩
abbrev S1x8192 : Shape := ⟨2, ![1, 8192]⟩
abbrev S_ : Shape := ⟨0, ![]⟩
abbrev S1x1x64 : Shape := ⟨3, ![1, 1, 64]⟩
abbrev S8x8x1 : Shape := ⟨3, ![8, 8, 1]⟩
abbrev S8x8192 : Shape := ⟨2, ![8, 8192]⟩
abbrev S8x8192x1 : Shape := ⟨3, ![8, 8192, 1]⟩
abbrev S8x8x8192 : Shape := ⟨3, ![8, 8, 8192]⟩
abbrev S1x1x8192 : Shape := ⟨3, ![1, 1, 8192]⟩
abbrev S64x8192 : Shape := ⟨2, ![64, 8192]⟩
abbrev S64x16 : Shape := ⟨2, ![64, 16]⟩
abbrev S64x1 : Shape := ⟨2, ![64, 1]⟩
abbrev S64x16x1 : Shape := ⟨3, ![64, 16, 1]⟩
abbrev S64x16x2 : Shape := ⟨3, ![64, 16, 2]⟩
abbrev S8x8x8192x1 : Shape := ⟨4, ![8, 8, 8192, 1]⟩
abbrev S8x8x1x1 : Shape := ⟨4, ![8, 8, 1, 1]⟩
abbrev S8x8x1x64 : Shape := ⟨4, ![8, 8, 1, 64]⟩
abbrev S8x1x8192x64 : Shape := ⟨4, ![8, 1, 8192, 64]⟩
abbrev S8x8x8192x64 : Shape := ⟨4, ![8, 8, 8192, 64]⟩
abbrev S1x8192x1 : Shape := ⟨3, ![1, 8192, 1]⟩

abbrev nBuf : Space → Nat
  | .hbm => 162
  | .vmem => 0
  | .smem => 0
  | _ => 0

abbrev hbmTy0_0 (i : Nat) : BufTy := match i % 128 with
  | 0 => ⟨S8x8192x64, .f32⟩
  | 1 => ⟨S8x8x64, .f32⟩
  | 2 => ⟨S8x8x64, .f32⟩
  | 3 => ⟨S8x8, .f32⟩
  | 4 => ⟨S8x8, .f32⟩
  | 5 => ⟨S8x8, .f32⟩
  | 6 => ⟨S64x64, .f32⟩
  | 7 => ⟨S64, .f32⟩
  | 8 => ⟨S64x64, .f32⟩
  | 9 => ⟨S64, .f32⟩
  | 10 => ⟨S8192, .f32⟩
  | 11 => ⟨S1x8192, .f32⟩
  | 12 => ⟨S_, .f32⟩
  | 13 => ⟨S1x8192, .f32⟩
  | 14 => ⟨S1x8192, .f32⟩
  | 15 => ⟨S8x8x64, .f32⟩
  | 16 => ⟨S1x1x64, .f32⟩
  | 17 => ⟨S8x8x64, .f32⟩
  | 18 => ⟨S8x8x64, .f32⟩
  | 19 => ⟨S_, .f32⟩
  | 20 => ⟨S8x8x64, .f32⟩
  | 21 => ⟨S8x8x64, .f32⟩
  | 22 => ⟨S8x8x64, .f32⟩
  | 23 => ⟨S_, .f32⟩
  | 24 => ⟨S_, .f32⟩
  | 25 => ⟨S8x8x64, .f32⟩
  | 26 => ⟨S8x8x64, .f32⟩
  | 27 => ⟨S8x8x64, .f32⟩
  | 28 => ⟨S8x8x64, .f32⟩
  | 29 => ⟨S8x8x64, .f32⟩
  | 30 => ⟨S1x1x64, .f32⟩
  | 31 => ⟨S8x8x64, .f32⟩
  | 32 => ⟨S8x8x64, .f32⟩
  | 33 => ⟨S8x8x64, .f32⟩
  | 34 => ⟨S_, .f32⟩
  | 35 => ⟨S8x8, .f32⟩
  | 36 => ⟨S8x8x1, .f32⟩
  | 37 => ⟨S8x8x1, .f32⟩
  | 38 => ⟨S_, .f32⟩
  | 39 => ⟨S8x8x1, .f32⟩
  | 40 => ⟨S8x8x1, .f32⟩
  | 41 => ⟨S8x8x64, .f32⟩
  | 42 => ⟨S8x8x64, .f32⟩
  | 43 => ⟨S8x8192x64, .f32⟩
  | 44 => ⟨S_, .f32⟩
  | 45 => ⟨S8x8192, .f32⟩
  | 46 => ⟨S8x8192x1, .f32⟩
  | 47 => ⟨S8x8192x1, .f32⟩
  | 48 => ⟨S_, .f32⟩
  | 49 => ⟨S8x8192x1, .f32⟩
  | 50 => ⟨S8x8192x1, .f32⟩
  | 51 => ⟨S8x8192x64, .f32⟩
  | 52 => ⟨S8x8192x64, .f32⟩
  | 53 => ⟨S8x8x8192, .f32⟩
  | 54 => ⟨S8x8x1, .f32⟩
  | 55 => ⟨S8x8x8192, .f32⟩
  | 56 => ⟨S8x8x8192, .f32⟩
  | 57 => ⟨S_, .f32⟩
  | 58 => ⟨S_, .f32⟩
  | 59 => ⟨S_, .f32⟩
  | 60 => ⟨S_, .f32⟩
  | 61 => ⟨S1x8192, .f32⟩
  | 62 => ⟨S1x8192, .f32⟩
  | 63 => ⟨S1x1x8192, .f32⟩
  | 64 => ⟨S8x8x8192, .f32⟩
  | 65 => ⟨S8x8x8192, .f32⟩
  | 66 => ⟨S64x8192, .f32⟩
  | 67 => ⟨S64x16, .f32⟩
  | 68 => ⟨S64x16, .i32⟩
  | 69 => ⟨S_, .i1⟩
  | 70 => ⟨S64x8192, .i1⟩
  | 71 => ⟨S64, .i32⟩
  | 72 => ⟨S64x1, .i32⟩
  | 73 => ⟨S_, .i32⟩
  | 74 => ⟨S64x1, .i32⟩
  | 75 => ⟨S64x1, .i1⟩
  | 76 => ⟨S_, .i32⟩
  | 77 => ⟨S64x1, .i32⟩
  | 78 => ⟨S64x1, .i32⟩
  | 79 => ⟨S64x1, .i32⟩
  | 80 => ⟨S_, .i32⟩
  | 81 => ⟨S64x16, .i32⟩
  | 82 => ⟨S64x16, .i1⟩
  | 83 => ⟨S_, .i32⟩
  | 84 => ⟨S64x16, .i32⟩
  | 85 => ⟨S64x16, .i32⟩
  | 86 => ⟨S64x16, .i32⟩
  | 87 => ⟨S64x16, .i32⟩
  | 88 => ⟨S64x16x1, .i32⟩
  | 89 => ⟨S64x16x1, .i32⟩
  | 90 => ⟨S64x16x2, .i32⟩
  | 91 => ⟨S_, .i1⟩
  | 92 => ⟨S64x16, .i1⟩
  | 93 => ⟨S64x8192, .i1⟩
  | 94 => ⟨S_, .f32⟩
  | 95 => ⟨S_, .f32⟩
  | 96 => ⟨S64x8192, .f32⟩
  | 97 => ⟨S64x8192, .f32⟩
  | 98 => ⟨S_, .f32⟩
  | 99 => ⟨S64, .f32⟩
  | 100 => ⟨S_, .f32⟩
  | 101 => ⟨S64, .f32⟩
  | 102 => ⟨S64, .f32⟩
  | 103 => ⟨S64x1, .f32⟩
  | 104 => ⟨S64x8192, .f32⟩
  | 105 => ⟨S64x8192, .f32⟩
  | 106 => ⟨S64x8192, .f32⟩
  | 107 => ⟨S_, .f32⟩
  | 108 => ⟨S64, .f32⟩
  | 109 => ⟨S64x1, .f32⟩
  | 110 => ⟨S64x8192, .f32⟩
  | 111 => ⟨S64x8192, .f32⟩
  | 112 => ⟨S8x8x8192, .f32⟩
  | 113 => ⟨S8x8x8192, .i1⟩
  | 114 => ⟨S8x8x8192x1, .f32⟩
  | 115 => ⟨S8x8x1x1, .f32⟩
  | 116 => ⟨S8x8x1x1, .f32⟩
  | 117 => ⟨S8x8x1x64, .f32⟩
  | 118 => ⟨S8x8x1x64, .f32⟩
  | 119 => ⟨S8x8x1x64, .f32⟩
  | 120 => ⟨S8x1x8192x64, .f32⟩
  | 121 => ⟨S8x8x8192x1, .f32⟩
  | 122 => ⟨S8x8x8192x1, .f32⟩
  | 123 => ⟨S_, .f32⟩
  | 124 => ⟨S8x8x8192x1, .f32⟩
  | 125 => ⟨S8x8x8192x1, .f32⟩
  | 126 => ⟨S8x8x8192x64, .f32⟩
  | 127 => ⟨S8x8x8192x64, .f32⟩
  | _ => ⟨S8x8192x64, .f32⟩

abbrev hbmTy0_1 (i : Nat) : BufTy := match i % 128 with
  | 0 => ⟨S8x8x8192x64, .f32⟩
  | 1 => ⟨S8x8x8192x64, .f32⟩
  | 2 => ⟨S8x8x8192x64, .f32⟩
  | 3 => ⟨S8x8x8192x64, .f32⟩
  | 4 => ⟨S8x8x8192x64, .f32⟩
  | 5 => ⟨S_, .f32⟩
  | 6 => ⟨S8x8192x64, .f32⟩
  | 7 => ⟨S_, .f32⟩
  | 8 => ⟨S8x8192x64, .f32⟩
  | 9 => ⟨S8x8192x64, .f32⟩
  | 10 => ⟨S_, .f32⟩
  | 11 => ⟨S8x8192x64, .f32⟩
  | 12 => ⟨S8x8192x64, .f32⟩
  | 13 => ⟨S8x8192x64, .f32⟩
  | 14 => ⟨S_, .f32⟩
  | 15 => ⟨S8x8192, .f32⟩
  | 16 => ⟨S8x8192x1, .f32⟩
  | 17 => ⟨S8x8192x1, .f32⟩
  | 18 => ⟨S_, .f32⟩
  | 19 => ⟨S8x8192x1, .f32⟩
  | 20 => ⟨S8x8192x1, .f32⟩
  | 21 => ⟨S8x8192x64, .f32⟩
  | 22 => ⟨S8x8192x64, .f32⟩
  | 23 => ⟨S8192, .f32⟩
  | 24 => ⟨S8192, .f32⟩
  | 25 => ⟨S_, .f32⟩
  | 26 => ⟨S8192, .f32⟩
  | 27 => ⟨S8192, .f32⟩
  | 28 => ⟨S_, .f32⟩
  | 29 => ⟨S8192, .f32⟩
  | 30 => ⟨S8192, .f32⟩
  | 31 => ⟨S1x8192x1, .f32⟩
  | 32 => ⟨S8x8192x64, .f32⟩
  | 33 => ⟨S8x8192x64, .f32⟩
  | _ => ⟨S8x8192x64, .f32⟩

abbrev hbmTy (i : Nat) : BufTy := match i / 128 with
  | 0 => hbmTy0_0 i
  | 1 => hbmTy0_1 i
  | _ => ⟨S8x8192x64, .f32⟩

abbrev bufTy : (tb : Table) → Fin (tcTables nBuf tb) → BufTy
  | .hbm, ⟨i, _⟩ => hbmTy i
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_call0_v2 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_values : Ref sig .tc := ⟨.hbm, 67, rfl⟩
abbrev main_indices : Ref sig .tc := ⟨.hbm, 68, rfl⟩
abbrev main_c : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_6 : Ref sig .tc := ⟨.hbm, 73, rfl⟩
abbrev main_v43 : Ref sig .tc := ⟨.hbm, 74, rfl⟩
abbrev main_v44 : Ref sig .tc := ⟨.hbm, 75, rfl⟩
abbrev main_c_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_8 : Ref sig .tc := ⟨.hbm, 80, rfl⟩
abbrev main_v48 : Ref sig .tc := ⟨.hbm, 81, rfl⟩
abbrev main_v49 : Ref sig .tc := ⟨.hbm, 82, rfl⟩
abbrev main_c_9 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_10 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_call2_v0 : Ref sig .tc := ⟨.hbm, 95, rfl⟩
abbrev main_call2_v1 : Ref sig .tc := ⟨.hbm, 96, rfl⟩
abbrev main_v59 : Ref sig .tc := ⟨.hbm, 97, rfl⟩
abbrev main_cst_12 : Ref sig .tc := ⟨.hbm, 98, rfl⟩
abbrev main_v60 : Ref sig .tc := ⟨.hbm, 99, rfl⟩
abbrev main_cst_13 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_14 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_15 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_16 : Ref sig .tc := ⟨.hbm, 133, rfl⟩
abbrev main_v91 : Ref sig .tc := ⟨.hbm, 134, rfl⟩
abbrev main_cst_17 : Ref sig .tc := ⟨.hbm, 135, rfl⟩
abbrev main_v92 : Ref sig .tc := ⟨.hbm, 136, rfl⟩
abbrev main_v93 : Ref sig .tc := ⟨.hbm, 137, rfl⟩
abbrev main_cst_18 : Ref sig .tc := ⟨.hbm, 138, rfl⟩
abbrev main_v94 : Ref sig .tc := ⟨.hbm, 139, rfl⟩
abbrev main_v95 : Ref sig .tc := ⟨.hbm, 140, rfl⟩
abbrev main_call3_v0 : Ref sig .tc := ⟨.hbm, 141, rfl⟩
abbrev main_call3_cst : Ref sig .tc := ⟨.hbm, 142, rfl⟩
abbrev main_call3_v1 : Ref sig .tc := ⟨.hbm, 143, rfl⟩
abbrev main_call3_v2 : Ref sig .tc := ⟨.hbm, 144, rfl⟩
abbrev main_v96 : Ref sig .tc := ⟨.hbm, 145, rfl⟩
abbrev main_cst_19 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_20 : Ref sig .tc := ⟨.hbm, 153, rfl⟩
abbrev main_v103 : Ref sig .tc := ⟨.hbm, 154, rfl⟩
abbrev main_v104 : Ref sig .tc := ⟨.hbm, 155, rfl⟩
abbrev main_cst_21 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩

abbrev nD : Nat := 1
abbrev τ : Topo := Topo.v7x

variable {F : FTy → Type} [FloatOps F]
-- ==== Proof.Rank.lean ====
/- Ranks in a finite row of extended reals. An entry comes before another if it is greater, or equal and at a lower
   place; the rank of a place is the number of places before it. Two ways of marking the first `k` places are read here:
   `k` rounds of taking the leftmost greatest entry and blanking it, and the first `k` entries of a stable descending
   sort. -/
module

public import Idealize.ShloMosaic.PureOps
public import Idealize.ShloMosaic.Lib.SortFacts
public import Mathlib.Data.EReal.Basic
public import Mathlib.Order.Interval.Finset.Fin
public import Mathlib.Data.Fintype.Card
public import Mathlib.Data.List.FinRange

@[expose] public section

noncomputable section

namespace Cert.Rank

open Classical

variable {n : ℕ}

/-- Place `i` comes before place `j`: its entry is greater, or equal and `i` is lower. -/
def Before (s : Fin n → EReal) (i j : Fin n) : Prop := s j < s i ∨ (s i = s j ∧ i < j)

/-- How many places come before `j`. -/
def rank (s : Fin n → EReal) (j : Fin n) : ℕ := (Finset.univ.filter fun i => Before s i j).card

theorem before_irrefl (s : Fin n → EReal) (i : Fin n) : ¬ Before s i i := by
  rintro (h | ⟨_, h⟩)
  · exact lt_irrefl _ h
  · exact lt_irrefl _ h

theorem before_trans (s : Fin n → EReal) {i j k : Fin n} (h : Before s i j) (h' : Before s j k) : Before s i k := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem before_total (s : Fin n → EReal) {i j : Fin n} (h : i ≠ j) : Before s i j ∨ Before s j i := by
  rcases lt_trichotomy (s i) (s j) with h' | h' | h'
  · exact .inr (.inl h')
  · rcases lt_or_gt_of_ne h with h2 | h2
    · exact .inl (.inr ⟨h', h2⟩)
    · exact .inr (.inr ⟨h'.symm, h2⟩)
  · exact .inl (.inl h')

/-- An earlier place has a smaller rank. -/
theorem rank_lt (s : Fin n → EReal) {i j : Fin n} (h : Before s i j) : rank s i < rank s j := by
  refine Finset.card_lt_card ⟨fun k hk => ?_, fun hs => ?_⟩
  · rw [Finset.mem_filter] at hk ⊢
    exact ⟨hk.1, before_trans s hk.2 h⟩
  · have := hs (Finset.mem_filter.2 ⟨Finset.mem_univ i, h⟩)
    exact before_irrefl s i (Finset.mem_filter.1 this).2

/-- Different places have different ranks. -/
theorem rank_inj (s : Fin n → EReal) {i j : Fin n} (h : rank s i = rank s j) : i = j := by
  by_contra hne
  rcases before_total s hne with h' | h'
  · exact absurd (rank_lt s h') (by omega)
  · exact absurd (rank_lt s h') (by omega)

/-- `p` is the leftmost place of the greatest entry. -/
def IsPick (w : Fin n → EReal) (p : Fin n) : Prop := ∀ j, j ≠ p → Before w p j

theorem isPick_unique (w : Fin n → EReal) {p q : Fin n} (hp : IsPick w p) (hq : IsPick w q) : p = q := by
  by_contra h
  exact before_irrefl w p (before_trans w (hp q (Ne.symm h)) (hq p h))

/-- The row `s` with the places of `S` blanked. -/
def blank (s : Fin n → EReal) (S : Set (Fin n)) (j : Fin n) : EReal := if j ∈ S then ⊥ else s j

/-- The set `S` holds, among the places whose entry is not `⊥`, exactly those of rank below `k`. -/
def Marks (s : Fin n → EReal) (k : ℕ) (S : Set (Fin n)) : Prop := ∀ j, s j ≠ ⊥ → (j ∈ S ↔ rank s j < k)

theorem marks_zero (s : Fin n → EReal) : Marks s 0 ∅ := fun j _ => by simp

/-- One round: the leftmost greatest entry of the blanked row joins the marked places. -/
theorem marks_succ (s : Fin n → EReal) {k : ℕ} {S : Set (Fin n)} (h : Marks s k S) {p : Fin n}
    (hp : IsPick (blank s S) p) : Marks s (k + 1) (insert p S) := by
  by_cases hall : ∀ j, s j ≠ ⊥ → j ∈ S
  · intro j hj
    have h1 := hall j hj
    have h2 := (h j hj).1 h1
    exact ⟨fun _ => by omega, fun _ => Set.mem_insert_of_mem _ h1⟩
  · push Not at hall
    obtain ⟨q, hq, hqS⟩ := hall
    have hbq : blank s S q = s q := if_neg hqS
    -- the picked place is unmarked and its entry is not `⊥`
    have hpb : blank s S p ≠ ⊥ := by
      by_cases e : q = p
      · rw [← e, hbq]; exact hq
      · rcases hp q e with h' | ⟨h', _⟩
        · exact ne_bot_of_gt h'
        · rw [h', hbq]; exact hq
    have hpS : p ∉ S := fun hm => hpb (if_pos hm)
    have hbp : blank s S p = s p := if_neg hpS
    have hps : s p ≠ ⊥ := hbp ▸ hpb
    have hge : k ≤ rank s p := by
      by_contra hlt
      exact hpS ((h p hps).2 (by omega))
    -- whatever comes before it is marked
    have hbef : ∀ i, Before s i p → i ∈ S := by
      intro i hi
      by_contra hiS
      have hbi : blank s S i = s i := if_neg hiS
      have hne : i ≠ p := fun e => before_irrefl s p (e ▸ hi)
      have : Before s p i := by
        rcases hp i hne with h' | ⟨h', h''⟩
        · exact .inl (by rw [hbi, hbp] at h'; exact h')
        · exact .inr ⟨by rw [hbi, hbp] at h'; exact h', h''⟩
      exact before_irrefl s i (before_trans s hi this)
    have hle : rank s p ≤ k := by
      by_contra hgt
      -- the place of rank `k` before `p` would be marked: count the marked places before `p` by their ranks
      have hinj : (Finset.univ.filter fun i => Before s i p).card ≤ (Finset.range k).card := by
        refine Finset.card_le_card_of_injOn (rank s) (fun i hi => ?_) (fun i _ j _ e => rank_inj s e)
        have hb := (Finset.mem_filter.1 (Finset.mem_coe.1 hi)).2
        have hi0 : s i ≠ ⊥ := by
          rcases hb with h' | ⟨h', _⟩
          · exact ne_bot_of_gt h'
          · rw [h']; exact hps
        exact Finset.mem_coe.2 (Finset.mem_range.2 ((h i hi0).1 (hbef i hb)))
      rw [Finset.card_range] at hinj
      exact hgt hinj
    have hr : rank s p = k := le_antisymm hle hge
    intro j hj
    rw [Set.mem_insert_iff, h j hj]
    constructor
    · rintro (rfl | h')
      · omega
      · omega
    · intro h'
      rcases Nat.lt_succ_iff_lt_or_eq.1 h' with h'' | h''
      · exact .inr h''
      · exact .inl (rank_inj s (h''.trans hr.symm))

/-- Some place holds the leftmost greatest entry of a row that has a place. -/
theorem exists_isPick (w : Fin n → EReal) (i₀ : Fin n) : ∃ p, IsPick w p := by
  obtain ⟨p, _, hp⟩ := Finset.exists_min_image Finset.univ (rank w) ⟨i₀, Finset.mem_univ _⟩
  refine ⟨p, fun j hj => ?_⟩
  rcases before_total w hj with h | h
  · exact absurd (rank_lt w h) (not_lt.2 (hp j (Finset.mem_univ j)))
  · exact h

/-- The leftmost greatest entry has rank zero. -/
theorem rank_pick (w : Fin n → EReal) {p : Fin n} (hp : IsPick w p) : rank w p = 0 := by
  rw [rank, Finset.card_eq_zero, Finset.filter_eq_empty_iff]
  intro i _ hi
  by_cases e : i = p
  · exact before_irrefl w p (e ▸ hi)
  · exact before_irrefl w i (before_trans w hi (hp i e))

theorem le_pick (w : Fin n → EReal) {p : Fin n} (hp : IsPick w p) (j : Fin n) : w j ≤ w p := by
  by_cases e : j = p
  · rw [e]
  · rcases hp j e with h | ⟨h, _⟩
    · exact h.le
    · exact h.symm.le

/-! ## The stable descending sort -/

open Idealize.ShloMosaic

/-- In a stable descending sort the place sorted to position `r` has rank `r`. -/
theorem rank_sortedFrom (s : Fin n → EReal) (before : Fin n → Fin n → Bool)
    (hb : ∀ i j, before i j = true ↔ s j < s i) (r : Fin n) : rank s (sortedFrom before r) = r.val := by
  -- the sorted list is strictly ordered by `Before`
  have hins : ∀ (a : Fin n) (l : List (Fin n)), (∀ b ∈ l, a < b) → l.Pairwise (Before s) →
      (insertBefore before a l).Pairwise (Before s) ∧ ∀ c, c ∈ insertBefore before a l ↔ c = a ∨ c ∈ l := by
    intro a l
    induction l with
    | nil => intro _ _; exact ⟨List.pairwise_singleton _ _, fun c => by simp [insertBefore]⟩
    | cons b l ih =>
      intro hlt hl
      rw [List.pairwise_cons] at hl
      have hab := hlt b List.mem_cons_self
      obtain ⟨ih1, ih2⟩ := ih (fun c hc => hlt c (List.mem_cons_of_mem b hc)) hl.2
      unfold insertBefore
      by_cases hba : before b a = true
      · rw [if_pos hba]
        refine ⟨List.pairwise_cons.2 ⟨fun c hc => ?_, ih1⟩, fun c => ?_⟩
        · rcases (ih2 c).1 hc with rfl | hc
          · exact .inl ((hb b c).1 hba)
          · exact hl.1 c hc
        · rw [List.mem_cons, ih2 c, List.mem_cons]; tauto
      · rw [if_neg hba]
        refine ⟨List.pairwise_cons.2 ⟨fun c hc => ?_, List.pairwise_cons.2 hl⟩, fun c => by rw [List.mem_cons]⟩
        have h1 : s b ≤ s a := not_lt.1 fun h => hba ((hb b a).2 h)
        have hab' : Before s a b := by
          rcases h1.lt_or_eq with h | h
          · exact .inl h
          · exact .inr ⟨h.symm, hab⟩
        rcases List.mem_cons.1 hc with rfl | hc
        · exact hab'
        · exact before_trans s hab' (hl.1 c hc)
  have hsort : ∀ l : List (Fin n), l.Pairwise (· < ·) →
      (stableSort before l).Pairwise (Before s) ∧ ∀ c, c ∈ stableSort before l ↔ c ∈ l := by
    intro l
    induction l with
    | nil => intro _; exact ⟨List.Pairwise.nil, fun c => Iff.rfl⟩
    | cons a l ih =>
      intro hl
      rw [List.pairwise_cons] at hl
      obtain ⟨ih1, ih2⟩ := ih hl.2
      obtain ⟨h1, h2⟩ := hins a _ (fun b hb' => hl.1 b ((ih2 b).1 hb')) ih1
      exact ⟨h1, fun c => by rw [stableSort, h2 c, ih2 c, List.mem_cons]⟩
  have hp := (hsort (List.finRange n) (List.pairwise_lt_finRange n)).1
  have hget : ∀ a b : Fin n, a < b → Before s (sortedFrom before a) (sortedFrom before b) := by
    intro a b hab
    exact List.pairwise_iff_get.1 hp _ _ hab
  have hiff : ∀ a b : Fin n, Before s (sortedFrom before a) (sortedFrom before b) ↔ a < b := by
    intro a b
    refine ⟨fun h => ?_, hget a b⟩
    by_contra hn
    rcases (not_lt.1 hn).lt_or_eq with h' | h'
    · exact before_irrefl s _ (before_trans s h (hget b a h'))
    · rw [h'] at h; exact before_irrefl s _ h
  have hcard : (Finset.univ.filter fun i => Before s i (sortedFrom before r)) = (Finset.Iio r).map
      ⟨sortedFrom before, sortedFrom_injective before⟩ := by
    ext i
    rw [Finset.mem_filter, Finset.mem_map]
    constructor
    · rintro ⟨_, h⟩
      obtain ⟨a, rfl⟩ := sortedFrom_surjective before i
      exact ⟨a, Finset.mem_Iio.2 ((hiff a r).1 h), rfl⟩
    · rintro ⟨a, ha, rfl⟩
      exact ⟨Finset.mem_univ _, (hiff a r).2 (Finset.mem_Iio.1 ha)⟩
  rw [rank, hcard, Finset.card_map, Fin.card_Iio]

/-- The places among the first `k` of the sort are those of rank below `k`. -/
theorem exists_sortedFrom_iff (s : Fin n → EReal) (before : Fin n → Fin n → Bool)
    (hb : ∀ i j, before i j = true ↔ s j < s i) (k : ℕ) (j : Fin n) :
    (∃ r : Fin n, r.val < k ∧ sortedFrom before r = j) ↔ rank s j < k := by
  constructor
  · rintro ⟨r, hr, rfl⟩
    rw [rank_sortedFrom s before hb r]; exact hr
  · intro h
    obtain ⟨r, rfl⟩ := sortedFrom_surjective before j
    rw [rank_sortedFrom s before hb r] at h
    exact ⟨r, h, rfl⟩

end Cert.Rank

end
-- ==== Proof.Consts.lean ====
/- The float constants that the two programs spell, as the extended reals their patterns denote. -/
module

public import Idealize.ShloMosaic.PureOps.Ideal
public import Idealize.ShloMosaic.PureOps.Ideal.Laws

@[expose] public section

noncomputable section

namespace Cert.Consts

open Idealize.ShloMosaic

/-- The pattern of minus infinity denotes `⊥`. -/
theorem negInf : Ideal.ofBits .f32 0xFF800000#32 = ⊥ := by simp [Ideal.ofBits, Ideal.ieee]

/-- The pattern of plus infinity denotes `⊤`. -/
theorem posInf : Ideal.ofBits .f32 0x7F800000#32 = ⊤ := by simp [Ideal.ofBits, Ideal.ieee]

/-- `2.0` denotes the real two. -/
theorem two : Ideal.ofBits .f32 0x40000000#32 = ((2 : ℝ) : EReal) := by
  simp [Ideal.ofBits, Ideal.ieee, -EReal.coe_mul]; norm_num

/-- `8.0` denotes the real eight. -/
theorem eight : Ideal.ofBits .f32 0x41000000#32 = ((8 : ℝ) : EReal) := by
  simp [Ideal.ofBits, Ideal.ieee, -EReal.coe_mul]; norm_num

/-- `0.125` denotes the real one eighth. -/
theorem eighth : Ideal.ofBits .f32 0x3E000000#32 = ((1 / 8 : ℝ) : EReal) := by
  simp [Ideal.ofBits, Ideal.ieee, -EReal.coe_mul]; norm_num

/-- The float nearest `1e-8` denotes a positive real. -/
theorem eps8 : ∃ e : ℝ, 0 < e ∧ Ideal.ofBits .f32 0x322BCC77#32 = (e : EReal) := by
  refine ⟨_, ?_, by simp only [Ideal.ofBits, Ideal.ieee]; simp [-EReal.coe_mul]; rfl⟩
  norm_num

/-- The float nearest `1e-12` denotes a positive real. -/
theorem eps12 : ∃ e : ℝ, 0 < e ∧ Ideal.ofBits .f32 0x2B8CBCCC#32 = (e : EReal) := by
  refine ⟨_, ?_, by simp only [Ideal.ofBits, Ideal.ieee]; simp [-EReal.coe_mul]; rfl⟩
  norm_num

end Cert.Consts

end
-- ==== Proof.Weights.lean ====
/- The sparse softmax of one row: the exponentials, less the greatest entry, of the sixteen first entries by rank, over
   their sum. -/
module

public import proofs.«01_k».proof.Proof.Rank
public import proofs.«01_k».proof.Proof.Consts

@[expose] public section

noncomputable section

namespace Cert.Weights

open Idealize.ShloMosaic Cert.Rank

variable {n : ℕ}

/-- The greatest entry of a row. -/
def top (s : Fin n → EReal) : EReal := Finset.univ.fold max ⊥ s

/-- The unnormalized weight of place `j`. -/
def part (k : ℕ) (s : Fin n → EReal) (j : Fin n) : EReal := if rank s j < k then Ideal.exp (s j - top s) else 0

/-- The weight of place `j`. -/
def weight (k : ℕ) (s : Fin n → EReal) (j : Fin n) : EReal := Ideal.div (part k s j) (∑ i, part k s i)

/-- The greatest entry is the one picked. -/
theorem top_eq (s : Fin n → EReal) {p : Fin n} (hp : IsPick s p) : top s = s p :=
  le_antisymm ((Finset.fold_max_le _).2 ⟨bot_le, fun j _ => le_pick s hp j⟩)
    ((Finset.le_fold_max _).2 (.inr ⟨p, Finset.mem_univ p, le_rfl⟩))

/-- The greatest entry of a matrix of one row. -/
theorem fold_pair (f : Fin n → EReal) :
    Finset.univ.fold max (Ideal.ofBits .f32 0xFF800000#32) (fun x : Fin 1 × Fin n => f x.2) = top f := by
  rw [Consts.negInf]
  exact le_antisymm
    ((Finset.fold_max_le _).2 ⟨bot_le, fun x _ => (Finset.le_fold_max _).2 (.inr ⟨x.2, Finset.mem_univ _, le_rfl⟩)⟩)
    ((Finset.fold_max_le _).2 ⟨bot_le, fun j _ => (Finset.le_fold_max _).2 (.inr ⟨(0, j), Finset.mem_univ _, le_rfl⟩)⟩)

/-- A place holding `⊥` has no weight, marked or not. -/
theorem exp_bot_sub (y : EReal) : Ideal.exp (⊥ - y) = 0 := by rw [EReal.bot_sub, Ideal.exp_bot]

/-- The kernel's form: the marks of `k` rounds select the exponentials. -/
theorem part_of_marks {k : ℕ} {s : Fin n → EReal} {S : Set (Fin n)} (h : Marks s k S) (j : Fin n) [Decidable (j ∈ S)] :
    (if j ∈ S then Ideal.exp (s j - top s) else 0) = part k s j := by
  unfold part
  by_cases hj : s j = ⊥
  · rw [hj, exp_bot_sub, ite_self, ite_self]
  · by_cases hm : j ∈ S
    · rw [if_pos hm, if_pos ((h j hj).1 hm)]
    · rw [if_neg hm, if_neg fun hr => hm ((h j hj).2 hr)]

/-- The row with every place of rank `k` or more blanked. -/
def masked (k : ℕ) (s : Fin n → EReal) (j : Fin n) : EReal := if rank s j < k then s j else ⊥

/-- The blanked row has the same greatest entry, so long as one place is kept. -/
theorem top_masked {k : ℕ} (hk : 0 < k) (s : Fin n → EReal) (i₀ : Fin n) : top (masked k s) = top s := by
  obtain ⟨p, hp⟩ := exists_isPick s i₀
  rw [top_eq s hp]
  refine le_antisymm ((Finset.fold_max_le _).2 ⟨bot_le, fun j _ => ?_⟩)
    ((Finset.le_fold_max _).2 (.inr ⟨p, Finset.mem_univ p, ?_⟩))
  · unfold masked
    split_ifs
    · exact le_pick s hp j
    · exact bot_le
  · rw [masked, rank_pick s hp, if_pos hk]

/-- The reference's form: the exponentials of the blanked row. -/
theorem part_of_masked {k : ℕ} (hk : 0 < k) (s : Fin n → EReal) (j : Fin n) :
    Ideal.exp (masked k s j - max ⊥ (top (masked k s))) = part k s j := by
  rw [max_eq_right bot_le, top_masked hk s j]
  unfold masked part
  split_ifs
  · rfl
  · exact exp_bot_sub _

end Cert.Weights

end
-- ==== Proof.Rounds.lean ====
/- The kernel's top sixteen: sixteen rounds on a block of eight rows, each marking the leftmost greatest entry of every
   row and blanking it. One round is read at an index once; the printed values are iterates of it; after `k` rounds a
   row's marks are its first `k` places by rank. -/
module

public import proofs.«01_k».proof.Proof.Gen.KernelIdeal.Value
public import proofs.«01_k».proof.Proof.Weights
public import Idealize.ShloMosaic.Lib.Pointwise

@[expose] public section

set_option maxRecDepth 16384

noncomputable section

namespace Cert.KernelIdeal.Rounds

open Cert.KernelIdeal Cert.KernelIdeal.Gen Idealize.ShloMosaic Cert.Rank

/-! ## One round -/

/-- The greatest entry of every row. -/
def rowMax (w : FVec Ideal S8x8192 .f32) : FVec Ideal S8 .f32 :=
  multiReduction .maximumf [1] S8 w 0xFF800000#32 reduces_S8x8192_S8 (.inl rfl) rfl

/-- The places holding their row's greatest entry keep their number, the others take a number past the end. -/
def cand (t : IVec S8x8192 32) (w : FVec Ideal S8x8192 .f32) : IVec S8x8192 32 :=
  select (cmpf .oeq w (broadcastTo S8x8192 (shapeCast S8x1 (rowMax w) shapeCasts_S8_S8x1) broadcasts_S8x1_S8x8192)) t
    (broadcast S8x8192 8192#32)

/-- The least number of every row. -/
def least (c : IVec S8x8192 32) : IVec S8 32 :=
  multiReductionI .minsi [1] S8 c 2147483647#32 reduces_S8x8192_S8 rfl

/-- The places whose number is the one given for their row. -/
def hitOf (t : IVec S8x8192 32) (l : IVec S8 32) : IVec S8x8192 1 :=
  cmpi .eq t (broadcastTo S8x8192 (shapeCast S8x1 l shapeCasts_S8_S8x1) broadcasts_S8x1_S8x8192)

/-- The places a round marks. -/
def hit (t : IVec S8x8192 32) (w : FVec Ideal S8x8192 .f32) : IVec S8x8192 1 := hitOf t (least (cand t w))

/-- The block after a round. -/
def next (t : IVec S8x8192 32) (w : FVec Ideal S8x8192 .f32) : FVec Ideal S8x8192 .f32 :=
  select (hit t w) (broadcast S8x8192 (Scalar.ofBits .f32 0xFF800000#32)) w

/-- The block after `k` rounds. -/
def work (t : IVec S8x8192 32) (s : FVec Ideal S8x8192 .f32) : ℕ → FVec Ideal S8x8192 .f32
  | 0 => s
  | k + 1 => next t (work t s k)

/-- The places marked in `k` rounds, from the marks `z`. -/
def mask (t : IVec S8x8192 32) (s : FVec Ideal S8x8192 .f32) (z : IVec S8x8192 1) : ℕ → IVec S8x8192 1
  | 0 => z
  | k + 1 => ori (mask t s z k) (hit t (work t s k))

/-! ## A round at an index -/

/-- The places' numbers: an entry's number is its column. -/
def cols : IVec S8x8192 32 := iota Kind.tc S8x8192 32 [1] iota_S8x8192_d1_w32

theorem cols_apply (r : Fin 8) (j : Fin 8192) : cols (ix2 r j) = BitVec.ofNat 32 j.val := by pointwise [cols]

/-- A row of the block. -/
abbrev row (w : FVec Ideal S8x8192 .f32) (r : Fin 8) (j : Fin 8192) : EReal := w (ix2 r j)

theorem rowMax_apply (w : FVec Ideal S8x8192 .f32) (r : Fin 8) : rowMax w (ix1 r) = Weights.top (row w r) := by
  pointwise [rowMax]
  rw [Consts.negInf]
  rfl

theorem cand_apply (w : FVec Ideal S8x8192 .f32) (r : Fin 8) (j : Fin 8192) :
    cand cols w (ix2 r j) = if row w r j = Weights.top (row w r) then BitVec.ofNat 32 j.val else 8192#32 := by
  pointwise [cand]
  rw [rowMax_apply, cols_apply]

theorem toInt_minsi (a b : BitVec 32) : (IntOp.minsi a b).toInt = min a.toInt b.toInt := by
  unfold IntOp.minsi
  rw [BitVec.slt_eq_decide]
  by_cases h : a.toInt < b.toInt
  · rw [if_pos (decide_eq_true h), min_eq_left h.le]
  · rw [if_neg (by simpa using h), min_eq_right (not_lt.1 h)]

theorem toInt_col (j : ℕ) (h : j ≤ 8192) : (BitVec.ofNat 32 j).toInt = (j : ℤ) := by
  rw [BitVec.toInt_eq_toNat_cond, BitVec.toNat_ofNat, Nat.mod_eq_of_lt (by omega), if_pos (by omega)]

/-- The least number of a row, read signed. -/
theorem least_toInt (c : IVec S8x8192 32) (r : Fin 8) :
    (least c (ix1 r)).toInt = Finset.univ.fold min (2147483647#32 : BitVec 32).toInt fun j : Fin 8192 => (c (ix2 r j)).toInt := by
  have e : least c (ix1 r) = Finset.univ.fold IntOp.minsi (2147483647#32) fun j : Fin 8192 => c (ix2 r j) := by
    pointwise [least]
  rw [e]
  exact (Finset.fold_hom (op := IntOp.minsi) (op' := min) (m := BitVec.toInt) (f := fun j : Fin 8192 => c (ix2 r j))
    toInt_minsi).symm

/-- A round's number for a row is the row's pick. -/
theorem least_pick (w : FVec Ideal S8x8192 .f32) (r : Fin 8) {p : Fin 8192} (hp : IsPick (row w r) p) :
    least (cand cols w) (ix1 r) = BitVec.ofNat 32 p.val := by
  apply BitVec.eq_of_toInt_eq
  rw [least_toInt, toInt_col _ p.isLt.le]
  have hc : ∀ j : Fin 8192, (cand cols w (ix2 r j)).toInt = if row w r j = row w r p then (j.val : ℤ) else 8192 := by
    intro j
    rw [cand_apply, Weights.top_eq _ hp]
    split_ifs
    · exact toInt_col _ j.isLt.le
    · exact toInt_col 8192 le_rfl
  simp only [hc]
  refine le_antisymm ((Finset.fold_min_le _).2 (.inr ⟨p, Finset.mem_univ p, by rw [if_pos rfl]⟩))
    ((Finset.le_fold_min _).2 ⟨?_, fun j _ => ?_⟩)
  · have : (2147483647#32 : BitVec 32).toInt = 2147483647 := by decide
    rw [this]
    have := p.isLt
    omega
  · split_ifs with h
    · by_cases e : j = p
      · rw [e]
      · rcases hp j e with h' | ⟨_, h'⟩
        · exact absurd h' (by rw [h]; exact lt_irrefl _)
        · exact_mod_cast h'.le
    · have := p.isLt
      omega

/-- A round marks the pick of every row and nothing else. -/
theorem hit_iff (w : FVec Ideal S8x8192 .f32) (r : Fin 8) {p : Fin 8192} (hp : IsPick (row w r) p) (j : Fin 8192) :
    hit cols w (ix2 r j) = 1#1 ↔ j = p := by
  have e : hit cols w (ix2 r j) = IntOp.cmpi .eq (cols (ix2 r j)) (least (cand cols w) (ix1 r)) := by
    pointwise [hit, hitOf]
  rw [e, cols_apply, least_pick w r hp]
  constructor
  · intro h
    have h' : BitVec.ofNat 32 j.val = BitVec.ofNat 32 p.val := by
      by_contra hne
      have hf : (BitVec.ofNat 32 j.val == BitVec.ofNat 32 p.val) = false := beq_eq_false_iff_ne.2 hne
      rw [IntOp.cmpi, hf] at h
      exact absurd h (by decide)
    have := congrArg BitVec.toInt h'
    rw [toInt_col _ j.isLt.le, toInt_col _ p.isLt.le] at this
    exact Fin.ext (by exact_mod_cast this)
  · rintro rfl
    simp [IntOp.cmpi]

/-! ## After `k` rounds -/

theorem next_apply (w : FVec Ideal S8x8192 .f32) (r : Fin 8) (j : Fin 8192) :
    next cols w (ix2 r j) = if hit cols w (ix2 r j) = 1#1 then ⊥ else w (ix2 r j) := by
  rw [← Consts.negInf]
  rfl

theorem ori_eq_one (a b : BitVec 1) : IntOp.ori a b = 1#1 ↔ a = 1#1 ∨ b = 1#1 := by
  revert a b; decide

/-- After `k` rounds a row is the row it was with the marked places blanked, and the marked places are its first `k`
    by rank. -/
theorem rounds (s : FVec Ideal S8x8192 .f32) (z : IVec S8x8192 1) (hz : ∀ i, z i = 0#1) (r : Fin 8) (k : ℕ) :
    (∀ j, row (work cols s k) r j = blank (row s r) {i | mask cols s z k (ix2 r i) = 1#1} j)
      ∧ Marks (row s r) k {i | mask cols s z k (ix2 r i) = 1#1} := by
  induction k with
  | zero =>
    have e : {i : Fin 8192 | mask cols s z 0 (ix2 r i) = 1#1} = ∅ := by
      ext i
      simp only [Set.mem_setOf_eq, Set.mem_empty_iff_false, iff_false, mask, hz]
      decide
    rw [e]
    exact ⟨fun j => by rw [blank, if_neg (Set.notMem_empty j)]; rfl, marks_zero _⟩
  | succ k ih =>
    obtain ⟨h1, h2⟩ := ih
    obtain ⟨p, hp⟩ := exists_isPick (row (work cols s k) r) 0
    have e : {i : Fin 8192 | mask cols s z (k + 1) (ix2 r i) = 1#1}
        = insert p {i : Fin 8192 | mask cols s z k (ix2 r i) = 1#1} := by
      ext i
      rw [Set.mem_insert_iff, Set.mem_setOf_eq, Set.mem_setOf_eq]
      have : mask cols s z (k + 1) (ix2 r i) = IntOp.ori (mask cols s z k (ix2 r i)) (hit cols (work cols s k) (ix2 r i)) := rfl
      rw [this, ori_eq_one, hit_iff _ r hp, or_comm]
    have hb : row (work cols s k) r = blank (row s r) {i | mask cols s z k (ix2 r i) = 1#1} := funext h1
    rw [e]
    refine ⟨fun j => ?_, marks_succ _ h2 (hb ▸ hp)⟩
    show next cols (work cols s k) (ix2 r j) = _
    rw [next_apply]
    by_cases hj : j = p
    · rw [if_pos ((hit_iff _ r hp j).2 hj), blank, if_pos (Set.mem_insert_iff.2 (.inl hj))]
    · rw [if_neg fun h => hj ((hit_iff _ r hp j).1 h)]
      refine (h1 j).trans ?_
      unfold blank
      by_cases hm : j ∈ {i : Fin 8192 | mask cols s z k (ix2 r i) = 1#1}
      · rw [if_pos hm, if_pos (Set.mem_insert_of_mem _ hm)]
      · rw [if_neg hm, if_neg fun h => (Set.mem_insert_iff.1 h).elim hj hm]

/-! ## The printed values are iterates of the round -/

variable (t : IVec S8x8192 32) (s w : FVec Ideal S8x8192 .f32) (z : IVec S8x8192 1)

theorem pay13 : k0_pay13 s t = hit t s := rfl
theorem pay14 : k0_pay14 s t = work t s 1 := by unfold k0_pay14; rw [pay13]; rfl
theorem pay15 : k0_pay15 s t = hit t (work t s 1) := by unfold k0_pay15; rw [pay14]; rfl
theorem pay16 : k0_pay16 s t = work t s 2 := by unfold k0_pay16; rw [pay15, pay14]; rfl
theorem pay17 : k0_pay17 s t = hit t (work t s 2) := by unfold k0_pay17; rw [pay16]; rfl
theorem pay18 : k0_pay18 s t z = mask t s z 3 := by unfold k0_pay18; rw [pay13, pay15, pay17]; rfl
theorem pay19 : k0_pay19 s t = work t s 3 := by unfold k0_pay19; rw [pay17, pay16]; rfl
theorem pay20 : k0_pay20 s t = cand t (work t s 3) := by unfold k0_pay20; rw [pay19]; rfl

theorem pay21 : k0_pay21 t (cand t w) = hit t w := rfl
theorem pay22 : k0_pay22 t w (cand t w) = work t w 1 := by unfold k0_pay22; rw [pay21]; rfl
theorem pay23 : k0_pay23 t w (cand t w) = hit t (work t w 1) := by unfold k0_pay23; rw [pay22]; rfl
theorem pay24 : k0_pay24 t w (cand t w) = work t w 2 := by unfold k0_pay24; rw [pay23, pay22]; rfl
theorem pay25 : k0_pay25 t w (cand t w) = hit t (work t w 2) := by unfold k0_pay25; rw [pay24]; rfl
theorem pay26 : k0_pay26 t w (cand t w) = work t w 3 := by unfold k0_pay26; rw [pay25, pay24]; rfl
theorem pay27 : k0_pay27 t w (cand t w) = hit t (work t w 3) := by unfold k0_pay27; rw [pay26]; rfl
theorem pay28 : k0_pay28 t z w (cand t w) = mask t w z 4 := by
  unfold k0_pay28; rw [pay21, pay23, pay25, pay27]; rfl
theorem pay29 : k0_pay29 t w (cand t w) = work t w 4 := by unfold k0_pay29; rw [pay27, pay26]; rfl

theorem pay30 : k0_pay30 t w = hit t w := rfl
theorem pay31 : k0_pay31 t w = work t w 1 := by unfold k0_pay31; rw [pay30]; rfl
theorem pay32 : k0_pay32 t w = hit t (work t w 1) := by unfold k0_pay32; rw [pay31]; rfl
theorem pay33 : k0_pay33 t w = work t w 2 := by unfold k0_pay33; rw [pay32, pay31]; rfl
theorem pay34 : k0_pay34 t w = hit t (work t w 2) := by unfold k0_pay34; rw [pay33]; rfl
theorem pay35 : k0_pay35 t z w = mask t w z 3 := by unfold k0_pay35; rw [pay30, pay32, pay34]; rfl
theorem pay36 : k0_pay36 t w = work t w 3 := by unfold k0_pay36; rw [pay34, pay33]; rfl
theorem pay37 : k0_pay37 t w = least (cand t (work t w 3)) := by unfold k0_pay37; rw [pay36]; rfl

theorem pay38 : k0_pay38 t (least (cand t w)) = hit t w := rfl
theorem pay39 : k0_pay39 t w (least (cand t w)) = work t w 1 := by unfold k0_pay39; rw [pay38]; rfl
theorem pay40 : k0_pay40 t w (least (cand t w)) = hit t (work t w 1) := by unfold k0_pay40; rw [pay39]; rfl
theorem pay41 : k0_pay41 t w (least (cand t w)) = work t w 2 := by unfold k0_pay41; rw [pay40, pay39]; rfl
theorem pay42 : k0_pay42 t w (least (cand t w)) = hit t (work t w 2) := by unfold k0_pay42; rw [pay41]; rfl
theorem pay43 : k0_pay43 t w (least (cand t w)) = work t w 3 := by unfold k0_pay43; rw [pay42, pay41]; rfl
theorem pay44 : k0_pay44 t w (least (cand t w)) = hit t (work t w 3) := by unfold k0_pay44; rw [pay43]; rfl
theorem pay45 : k0_pay45 t z w (least (cand t w)) = mask t w z 4 := by
  unfold k0_pay45; rw [pay38, pay40, pay42, pay44]; rfl
theorem pay46 : k0_pay46 t w (least (cand t w)) = work t w 4 := by unfold k0_pay46; rw [pay44, pay43]; rfl
theorem pay47 : k0_pay47 t w (least (cand t w)) = rowMax (work t w 4) := by unfold k0_pay47; rw [pay46]; rfl

/-- Rounds follow on rounds. -/
theorem work_add (a b : ℕ) : work t (work t s a) b = work t s (a + b) := by
  induction b with
  | zero => rfl
  | succ b ih => rw [work, ih]; rfl

theorem mask_add (a b : ℕ) : mask t (work t s a) (mask t s z a) b = mask t s z (a + b) := by
  induction b with
  | zero => rfl
  | succ b ih => rw [mask, ih, work_add]; rfl

/-- The marks and the block after the first seven rounds. -/
theorem marks_seven : k0_pay28 t (k0_pay18 s t z) (k0_pay19 s t) (k0_pay20 s t) = mask t s z 7 := by
  rw [pay18, pay19, pay20, pay28, mask_add]
theorem block_seven : k0_pay29 t (k0_pay19 s t) (k0_pay20 s t) = work t s 7 := by
  rw [pay19, pay20, pay29, work_add]

/-- The marks, the block and its numbers after ten. -/
theorem marks_ten : k0_pay35 t (mask t s z 7) (work t s 7) = mask t s z 10 := by rw [pay35, mask_add]
theorem block_ten : k0_pay36 t (work t s 7) = work t s 10 := by rw [pay36, work_add]
theorem numbers_ten : k0_pay37 t (work t s 7) = least (cand t (work t s 10)) := by rw [pay37, work_add]

/-- The marks, the block and its greatest entries after fourteen. -/
theorem marks_fourteen : k0_pay45 t (mask t s z 10) (work t s 10) (least (cand t (work t s 10))) = mask t s z 14 := by
  rw [pay45, mask_add]
theorem block_fourteen : k0_pay46 t (work t s 10) (least (cand t (work t s 10))) = work t s 14 := by
  rw [pay46, work_add]
theorem greatest_fourteen : k0_pay47 t (work t s 10) (least (cand t (work t s 10))) = rowMax (work t s 14) := by
  rw [pay47, work_add]

/-- The exponentials selected by the marks, less the given number of every row. -/
def parts (m : IVec S8x8192 1) (s : FVec Ideal S8x8192 .f32) (b : FVec Ideal S8x1 .f32) : FVec Ideal S8x8192 .f32 :=
  select m (exp (subf s (broadcastTo S8x8192 b broadcasts_S8x1_S8x8192))) (broadcast S8x8192 (Scalar.ofBits .f32 0x00000000#32))

/-- Every row over its sum. -/
def shares (e : FVec Ideal S8x8192 .f32) : FVec Ideal S8x8192 .f32 :=
  divf e (broadcastTo S8x8192 (shapeCast S8x1 (multiReduction .add [1] S8 e 0x00000000#32 reduces_S8x8192_S8 (.inl rfl) rfl)
    shapeCasts_S8_S8x1) broadcasts_S8x1_S8x8192)

/-- The last two rounds and the softmax. -/
theorem sixteen (b : FVec Ideal S8x1 .f32) :
    k0_pay48 s t b (mask t s z 14) (work t s 14) (rowMax (work t s 14)) = shares (parts (mask t s z 16) s b) := rfl

theorem parts_apply (b : FVec Ideal S8x1 .f32) (m : IVec S8x8192 1) (r : Fin 8) (j : Fin 8192) :
    parts m s b (ix2 r j) = if m (ix2 r j) = 1#1 then Ideal.exp (s (ix2 r j) - b (ix2 r 0)) else 0 := by
  pointwise [parts]
  rfl

theorem shares_apply (e : FVec Ideal S8x8192 .f32) (r : Fin 8) (j : Fin 8192) :
    shares e (ix2 r j) = Ideal.div (e (ix2 r j)) (∑ i, e (ix2 r i)) := by
  pointwise [shares]

/-- The kernel's weights are the sparse softmax of each row. -/
theorem weights (hz : ∀ i, z i = 0#1) (b : FVec Ideal S8x1 .f32) (hb : ∀ r, b (ix2 r 0) = Weights.top (row s r))
    (r : Fin 8) (j : Fin 8192) :
    shares (parts (mask cols s z 16) s b) (ix2 r j) = Weights.weight 16 (row s r) j := by
  have h : ∀ i, parts (mask cols s z 16) s b (ix2 r i) = Weights.part 16 (row s r) i := by
    intro i
    classical
    rw [parts_apply, hb, ← Weights.part_of_marks (rounds s z hz r 16).2 i]
    rfl
  rw [shares_apply, Weights.weight, h]
  exact congrArg _ (Finset.sum_congr rfl fun i _ => h i)

end Cert.KernelIdeal.Rounds

end
-- ==== Proof.Algebra.lean ====
/- The equations over the extended reals between the forms the two programs compute: the age bias, the activation, the
   mean over the heads, and the normalization of a row. -/
module

public import proofs.«01_k».proof.Proof.Consts

@[expose] public section

noncomputable section

namespace Cert.Algebra

open Idealize.ShloMosaic

/-! ## Real and not -/

/-- The value is a real number. -/
def IsReal (y : EReal) : Prop := ∃ r : ℝ, y = (r : EReal)

theorem isReal_coe (r : ℝ) : IsReal (r : EReal) := ⟨r, rfl⟩

theorem not_isReal_top : ¬ IsReal ⊤ := fun ⟨r, h⟩ => EReal.coe_ne_top r h.symm
theorem not_isReal_bot : ¬ IsReal ⊥ := fun ⟨r, h⟩ => EReal.coe_ne_bot r h.symm

theorem not_isReal {y : EReal} (h : ¬ IsReal y) : y = ⊤ ∨ y = ⊥ := by
  induction y with
  | bot => exact .inr rfl
  | top => exact .inl rfl
  | coe r => exact absurd (isReal_coe r) h

/-- A sum is real exactly when both terms are. -/
theorem isReal_add {x y : EReal} : IsReal (x + y) ↔ IsReal x ∧ IsReal y := by
  constructor
  · intro h
    induction x with
    | bot => rw [EReal.bot_add] at h; exact absurd h not_isReal_bot
    | top =>
      induction y with
      | bot => rw [EReal.add_bot] at h; exact absurd h not_isReal_bot
      | top => rw [EReal.top_add_top] at h; exact absurd h not_isReal_top
      | coe s => rw [EReal.top_add_coe] at h; exact absurd h not_isReal_top
    | coe r =>
      induction y with
      | bot => rw [EReal.add_bot] at h; exact absurd h not_isReal_bot
      | top => rw [EReal.coe_add_top] at h; exact absurd h not_isReal_top
      | coe s => exact ⟨isReal_coe r, isReal_coe s⟩
  · rintro ⟨⟨r, rfl⟩, ⟨s, rfl⟩⟩
    exact ⟨r + s, (EReal.coe_add r s).symm⟩

theorem isReal_neg {x : EReal} : IsReal (-x) ↔ IsReal x := by
  constructor
  · rintro ⟨r, h⟩
    exact ⟨-r, by rw [EReal.coe_neg, ← h, neg_neg]⟩
  · rintro ⟨r, rfl⟩
    exact ⟨-r, (EReal.coe_neg r).symm⟩

theorem isReal_sub {x y : EReal} : IsReal (x - y) ↔ IsReal x ∧ IsReal y := by
  rw [sub_eq_add_neg, isReal_add, isReal_neg]

/-- A product with a real that is not zero is real exactly when the other factor is. -/
theorem isReal_coe_mul {r : ℝ} (hr : r ≠ 0) {x : EReal} : IsReal ((r : EReal) * x) ↔ IsReal x := by
  constructor
  · intro h
    induction x with
    | bot =>
      rcases lt_or_gt_of_ne hr with h' | h'
      · rw [EReal.coe_mul_bot_of_neg h'] at h; exact absurd h not_isReal_top
      · rw [EReal.coe_mul_bot_of_pos h'] at h; exact absurd h not_isReal_bot
    | top =>
      rcases lt_or_gt_of_ne hr with h' | h'
      · rw [EReal.coe_mul_top_of_neg h'] at h; exact absurd h not_isReal_bot
      · rw [EReal.coe_mul_top_of_pos h'] at h; exact absurd h not_isReal_top
    | coe s => exact isReal_coe s
  · rintro ⟨s, rfl⟩
    exact ⟨r * s, (EReal.coe_mul r s).symm⟩

theorem isReal_mul_coe {r : ℝ} (hr : r ≠ 0) {x : EReal} : IsReal (x * (r : EReal)) ↔ IsReal x := by
  rw [mul_comm, isReal_coe_mul hr]

/-- A finite sum is real exactly when every term is. -/
theorem isReal_sum {ι : Type} (s : Finset ι) (f : ι → EReal) : IsReal (∑ i ∈ s, f i) ↔ ∀ i ∈ s, IsReal (f i) := by
  classical
  induction s using Finset.induction_on with
  | empty => exact ⟨fun _ i hi => absurd hi (Finset.notMem_empty i), fun _ => ⟨0, by simp⟩⟩
  | insert a s ha ih => rw [Finset.sum_insert ha, isReal_add, ih, Finset.forall_mem_insert]

theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## The age bias -/

/-- An entry times the reciprocal of the greatest entry plus a positive constant is the entry divided by it: where the
    divisor is zero the greatest entry is negative, so the entry is too, and both are `⊥`. -/
theorem mul_recip {a M ε : EReal} (h : a ≤ M) (hε : ∃ e : ℝ, 0 < e ∧ ε = (e : EReal)) :
    a * Ideal.div 1 (M + ε) = Ideal.div a (M + ε) := by
  obtain ⟨e, he, rfl⟩ := hε
  by_cases hz : M + (e : EReal) = 0
  · have hM : M < 0 := by
      induction M with
      | bot => exact EReal.bot_lt_zero
      | top => rw [EReal.top_add_coe] at hz; exact absurd hz (by simp)
      | coe r =>
        have : r + e = 0 := by exact_mod_cast hz
        have : r < 0 := by linarith
        exact_mod_cast this
    have ha : a < 0 := h.trans_lt hM
    rw [Ideal.div, Ideal.div, if_pos hz, if_pos hz, if_pos zero_lt_one, if_neg ha.not_gt, EReal.mul_top_of_neg ha]
  · rw [Ideal.div, Ideal.div, if_neg hz, if_neg hz, one_mul]

/-! ## The activation -/

/-- `1 + erf (v / c)` is `erfc (-v / c)`, for a real `c` that is not zero. -/
theorem erfc_div {c : ℝ} (hc : c ≠ 0) (v : EReal) :
    Ideal.erfc (Ideal.div (-v) (c : EReal)) = 1 + Ideal.erf (Ideal.div v (c : EReal)) := by
  rw [Ideal.div_coe hc, Ideal.div_coe hc, EReal.neg_mul, Ideal.erfc_neg]

/-! ## The mean over the heads -/

/-- One entry of the memory after the write, before the normalization: erased and added head by head, the kernel's
    form on the left (the eighths inside the sums) and the mean's on the right. They are equal, or neither is real. -/
theorem head_mean {n : ℕ} (x : ℝ) (a b : Fin n → EReal) {c d ε : ℝ} (hc : 0 < c) (hd : d ≠ 0) (hcd : c = 1 / d)
    (hn : (n : ℝ) * c = 1) :
    (((x : EReal) - (x : EReal) * ∑ h, a h * (c : EReal)) + ∑ h, b h * (c : EReal)) + (ε : EReal)
        = Ideal.div (∑ h, ((x : EReal) * (1 - a h) + b h)) (d : EReal) + (ε : EReal)
      ∨ (¬ IsReal ((((x : EReal) - (x : EReal) * ∑ h, a h * (c : EReal)) + ∑ h, b h * (c : EReal)) + (ε : EReal))
        ∧ ¬ IsReal (Ideal.div (∑ h, ((x : EReal) * (1 - a h) + b h)) (d : EReal) + (ε : EReal))) := by
  rw [Ideal.div_coe hd, ← hcd]
  by_cases hx : x = 0
  · left
    subst hx
    simp only [EReal.coe_zero, zero_mul, zero_add, sub_zero]
    rw [sum_mul_coe _ _ hc.le]
  · by_cases hab : (∀ h, IsReal (a h)) ∧ ∀ h, IsReal (b h)
    · left
      choose a' ha using hab.1
      choose b' hb using hab.2
      have e1 : ∀ h, a h * (c : EReal) = ((a' h * c : ℝ) : EReal) := fun h => by rw [ha h, EReal.coe_mul]
      have e2 : ∀ h, b h * (c : EReal) = ((b' h * c : ℝ) : EReal) := fun h => by rw [hb h, EReal.coe_mul]
      have e3 : ∀ h, (x : EReal) * (1 - a h) + b h = ((x * (1 - a' h) + b' h : ℝ) : EReal) := fun h => by
        rw [ha h, hb h, EReal.coe_add, EReal.coe_mul, EReal.coe_sub, EReal.coe_one]
      simp only [e1, e2, e3, coe_sum, ← EReal.coe_mul, ← EReal.coe_sub, ← EReal.coe_add]
      congr 1
      rw [Finset.sum_add_distrib, ← Finset.mul_sum, Finset.sum_sub_distrib, ← Finset.sum_mul, ← Finset.sum_mul]
      simp only [Finset.sum_const, Finset.card_univ, Fintype.card_fin, nsmul_eq_mul, mul_one]
      linear_combination (-x) * hn
    · right
      constructor
      · intro h
        refine hab ⟨fun i => ?_, fun i => ?_⟩
        · exact (isReal_mul_coe hc.ne').1 ((isReal_sum _ _).1 ((isReal_coe_mul hx).1
            (isReal_sub.1 (isReal_add.1 (isReal_add.1 h).1).1).2) i (Finset.mem_univ i))
        · exact (isReal_mul_coe hc.ne').1 ((isReal_sum _ _).1 (isReal_add.1 (isReal_add.1 h).1).2 i (Finset.mem_univ i))
      · intro h
        have h' := (isReal_sum _ _).1 ((isReal_mul_coe hc.ne').1 (isReal_add.1 h).1)
        refine hab ⟨fun i => ?_, fun i => ?_⟩
        · exact (isReal_sub.1 ((isReal_coe_mul hx).1 (isReal_add.1 (h' i (Finset.mem_univ i))).1)).2
        · exact (isReal_add.1 (h' i (Finset.mem_univ i))).2

/-! ## The normalization of a row -/

/-- The length of a row, kept away from zero by `ε`. -/
def norm {n : ℕ} (ε : EReal) (v : Fin n → EReal) : EReal := max (Ideal.sqrt (∑ i, v i * v i)) ε

theorem mul_self_nonneg (y : EReal) : 0 ≤ y * y := by
  rcases le_total 0 y with h | h
  · exact mul_nonneg h h
  · rw [← neg_mul_neg]
    exact mul_nonneg (by rwa [EReal.neg_nonneg]) (by rwa [EReal.neg_nonneg])

/-- A row with an entry that is not real has length `⊤`. -/
theorem norm_top {n : ℕ} (ε : EReal) (v : Fin n → EReal) (k : Fin n) (hk : ¬ IsReal (v k)) : norm ε v = ⊤ := by
  have h1 : v k * v k = ⊤ := by
    rcases not_isReal hk with h | h <;> rw [h]
    · exact EReal.top_mul_top
    · exact EReal.bot_mul_bot
  have h2 : ∑ i, v i * v i = ⊤ := by
    refine top_le_iff.1 (h1 ▸ Finset.single_le_sum (f := fun i => v i * v i) (fun i _ => mul_self_nonneg (v i))
      (Finset.mem_univ k))
  rw [norm, h2, Ideal.sqrt_top, max_eq_left le_top]

theorem div_top (y : EReal) : Ideal.div y ⊤ = 0 := by
  rw [Ideal.div, if_neg EReal.top_ne_zero, EReal.inv_top, mul_zero]

/-- Two rows whose entries are equal or neither real, normalized and scaled by one number, are equal. -/
theorem normalize_eq {n : ℕ} {ε : EReal} (hε : 0 < ε) (N N' : Fin n → EReal)
    (h : ∀ i, N i = N' i ∨ (¬ IsReal (N i) ∧ ¬ IsReal (N' i))) (σ : EReal) (i : Fin n) :
    N i * Ideal.div σ (norm ε N) = Ideal.div (N' i) (norm ε N') * σ := by
  by_cases hk : ∃ k, ¬ IsReal (N k) ∧ ¬ IsReal (N' k)
  · obtain ⟨k, h1, h2⟩ := hk
    rw [norm_top ε N k h1, norm_top ε N' k h2, div_top, div_top, mul_zero, zero_mul]
  · have e : N = N' := funext fun k => (h k).resolve_right fun hh => hk ⟨k, hh⟩
    subst e
    have hne : norm ε N ≠ 0 := (hε.trans_le (le_max_right _ _)).ne'
    rw [Ideal.div, Ideal.div, if_neg hne, if_neg hne, mul_assoc, mul_comm σ]

end Cert.Algebra

end
-- ==== Proof.Spec.lean ====
/- What the two programs compute, written over plain functions: the similarities of one head with every slot, the
   weights, the compressed values, and the memory after the write in the kernel's form and in the mean's; and that the
   two forms agree where the memory is finite. -/
module

public import proofs.«01_k».proof.Proof.Algebra
public import proofs.«01_k».proof.Proof.Weights

@[expose] public section

noncomputable section

namespace Cert.Spec

open Idealize.ShloMosaic Cert.Algebra Cert.Weights

/-- The constant that keeps a length away from zero, and the one that keeps the age's divisor away from it. -/
abbrev ε12 : EReal := Ideal.ofBits .f32 0x2B8CBCCC#32
abbrev ε8 : EReal := Ideal.ofBits .f32 0x322BCC77#32
abbrev half : EReal := Ideal.ofBits .f32 0x3F000000#32

/-- The arguments, read at an index. -/
structure Args where
  mem : Fin 8 → Fin 8192 → Fin 64 → EReal
  keys : Fin 8 → Fin 8 → Fin 64 → EReal
  vals : Fin 8 → Fin 8 → Fin 64 → EReal
  erase : Fin 8 → Fin 8 → EReal
  gate : Fin 8 → Fin 8 → EReal
  beta : Fin 8 → Fin 8 → EReal
  w1 : Fin 64 → Fin 64 → EReal
  b1 : Fin 64 → EReal
  w2 : Fin 64 → Fin 64 → EReal
  b2 : Fin 64 → EReal
  decay : Fin 8192 → EReal
  age : Fin 8192 → EReal

/-- A row over its length. -/
def unit {n : ℕ} (v : Fin n → EReal) (i : Fin n) : EReal := Ideal.div (v i) (norm ε12 v)

/-- The age bias of a slot. -/
def bias (u : Fin 8192 → EReal) (j : Fin 8192) : EReal := Ideal.div (u j + 1) (top (fun i => u i + 1) + ε8)

/-- The kernel's age bias, a product with the reciprocal, is the quotient. -/
theorem bias_eq (u : Fin 8192 → EReal) (j : Fin 8192) :
    (u j + 1) * Ideal.div 1 (top (fun i => u i + 1) + ε8) = bias u j :=
  mul_recip ((Finset.le_fold_max _).2 (.inr ⟨j, Finset.mem_univ j, le_rfl⟩)) Consts.eps8

/-- The similarity of a head of key `q` and strength `β` with slot `j`. -/
def sim (q : Fin 64 → EReal) (β : EReal) (M : Fin 8192 → Fin 64 → EReal) (u : Fin 8192 → EReal) (j : Fin 8192) : EReal :=
  (∑ x, unit q x * unit (M j) x) * β + bias u j

/-- The activation: half the argument times one plus the error function of the argument over the root of two. -/
def gelu (v : EReal) : EReal := half * v * (1 + Ideal.erf (Ideal.div v ((Real.sqrt 2 : ℝ) : EReal)))

/-- The reference's activation is the same. -/
theorem gelu_eq (v : EReal) :
    half * v * Ideal.erfc (Ideal.div (-v) (Ideal.sqrt (Ideal.ofBits .f32 0x40000000#32))) = gelu v := by
  rw [Consts.two, Ideal.sqrt_coe, if_neg (by norm_num), erfc_div (Real.sqrt_ne_zero'.2 two_pos)]
  rfl

/-- One compressed value. -/
def value (v : Fin 64 → EReal) (w1 : Fin 64 → Fin 64 → EReal) (b1 : Fin 64 → EReal) (w2 : Fin 64 → Fin 64 → EReal)
    (b2 : Fin 64 → EReal) (d : Fin 64) : EReal :=
  ∑ k, gelu (∑ x, v x * w1 x k + b1 k) * w2 k d + b2 d

variable (x : Args)

/-- The weight of head `h` of batch `b` at slot `j`. -/
def wt (b h : Fin 8) : Fin 8192 → EReal := weight 16 (sim (x.keys b h) (x.beta b h) (x.mem b) x.age)

/-- The compressed value of head `h` of batch `b`. -/
def val (b h : Fin 8) : Fin 64 → EReal := value (x.vals b h) x.w1 x.b1 x.w2 x.b2

/-- The memory after the write, before the normalization: the kernel's form. -/
def fused (b : Fin 8) (j : Fin 8192) (d : Fin 64) : EReal :=
  ((x.mem b j d - x.mem b j d * ∑ h, wt x b h j * (x.erase b h * Ideal.ofBits .f32 0x3E000000#32))
    + ∑ h, wt x b h j * (val x b h d * (x.gate b h * Ideal.ofBits .f32 0x3E000000#32))) + ε8

/-- The same as a mean over the heads. -/
def mean (b : Fin 8) (j : Fin 8192) (d : Fin 64) : EReal :=
  Ideal.div (∑ h, (x.mem b j d * (1 - wt x b h j * x.erase b h) + wt x b h j * (x.gate b h * val x b h d)))
    (Ideal.ofBits .f32 0x41000000#32) + ε8

/-- The new memory, in the kernel's form. -/
def written (b : Fin 8) (j : Fin 8192) (d : Fin 64) : EReal :=
  fused x b j d * Ideal.div (Ideal.logistic (x.decay j)) (norm ε12 (fused x b j))

/-- Where the memory is finite the kernel's form and the mean are equal, or neither is real. -/
theorem fused_or (hx : ∀ b j d, IsReal (x.mem b j d)) (b : Fin 8) (j : Fin 8192) (d : Fin 64) :
    fused x b j d = mean x b j d ∨ (¬ IsReal (fused x b j d) ∧ ¬ IsReal (mean x b j d)) := by
  obtain ⟨r, hr⟩ := hx b j d
  obtain ⟨e, _, he⟩ := Consts.eps8
  have h1 : ∀ h, wt x b h j * (x.erase b h * ((1 / 8 : ℝ) : EReal)) = wt x b h j * x.erase b h * ((1 / 8 : ℝ) : EReal) :=
    fun h => (mul_assoc _ _ _).symm
  have h2 : ∀ h, wt x b h j * (val x b h d * (x.gate b h * ((1 / 8 : ℝ) : EReal)))
      = wt x b h j * (x.gate b h * val x b h d) * ((1 / 8 : ℝ) : EReal) := fun h => by
    rw [← mul_assoc (val x b h d), mul_comm (val x b h d) (x.gate b h), ← mul_assoc]
  unfold fused mean
  rw [Consts.eighth, Consts.eight, show (ε8 : EReal) = (e : EReal) from he, hr]
  simp only [h1, h2]
  exact head_mean r (fun h => wt x b h j * x.erase b h) (fun h => wt x b h j * (x.gate b h * val x b h d))
    (c := 1 / 8) (d := 8) (by norm_num) (by norm_num) rfl (by norm_num)

/-- Where the memory is finite the reference's new memory is the kernel's. -/
theorem written_eq (hx : ∀ b j d, IsReal (x.mem b j d)) (b : Fin 8) (j : Fin 8192) (d : Fin 64) :
    Ideal.div (mean x b j d) (norm ε12 (mean x b j)) * Ideal.logistic (x.decay j) = written x b j d := by
  obtain ⟨e, h0, he⟩ := Consts.eps12
  have h1 : (0 : EReal) < ε12 := lt_of_lt_of_eq (b := ((e : ℝ) : EReal)) (by exact_mod_cast h0) he.symm
  exact (normalize_eq h1 (fused x b j) (mean x b j)
    (fused_or x hx b j) (Ideal.logistic (x.decay j)) d).symm

end Cert.Spec

end
-- ==== Proof.KernelBlock.lean ====
/- What one grid point of the kernel computes, read at an index, from the blocks it reads. -/
module

public import proofs.«01_k».proof.Proof.Rounds
public import proofs.«01_k».proof.Proof.Spec

@[expose] public section

set_option maxRecDepth 16384

noncomputable section

namespace Cert.KernelIdeal.Block

open Cert.KernelIdeal Cert.KernelIdeal.Gen Idealize.ShloMosaic Cert.KernelIdeal.Rounds Cert.Spec

/-- The root of two, as the kernel names it. -/
theorem named_sqrt2 : (Named.named (F := Ideal) (φ := .f32) κ "sqrt2" 0x3FB504F3#32 : EReal) = ((Real.sqrt 2 : ℝ) : EReal) := rfl

variable (keys : FVec Ideal S8x64 .f32) (beta : FVec Ideal S8x1 .f32) (mem : Vec Ideal S1x8192x64 .f32)
  (age : Vec Ideal S1x8192 .f32)

/-- The similarities of head `r`, from the block's keys, strengths, memory and ages. -/
def simRow (r : Fin 8) : Fin 8192 → EReal :=
  sim (fun x => keys (ix2 r x)) (beta (ix2 r 0)) (fun j x => mem (ix3 0 j x)) fun j => age (ix2 0 j)

theorem sims_apply (r : Fin 8) (j : Fin 8192) : k0_pay10 keys beta mem age (ix2 r j) = simRow keys beta mem age r j := by
  pointwise [k0_pay10, k0_pay9, k0_pay8]
  rw [Weights.fold_pair fun j => age (ix2 0 j) + 1]
  exact congrArg _ (bias_eq (fun j => age (ix2 0 j)) j)

theorem greatest_apply (r : Fin 8) :
    k0_pay12 keys beta mem age (ix2 r 0) = Weights.top (row (k0_pay10 keys beta mem age) r) := by
  have e : k0_pay12 keys beta mem age = shapeCast S8x1 (rowMax (k0_pay10 keys beta mem age)) shapeCasts_S8_S8x1 := rfl
  rw [e, ← rowMax_apply]
  pointwise

theorem no_marks (i : S8x8192.Idx) : k0_pay11 i = 0#1 := rfl

/-- The block's weights. -/
def blockWeights : FVec Ideal S8x8192 .f32 :=
  k0_pay48 (k0_pay10 keys beta mem age) cols (k0_pay12 keys beta mem age)
    (mask cols (k0_pay10 keys beta mem age) k0_pay11 14) (work cols (k0_pay10 keys beta mem age) 14)
    (rowMax (work cols (k0_pay10 keys beta mem age) 14))

theorem blockWeights_apply (r : Fin 8) (j : Fin 8192) :
    blockWeights keys beta mem age (ix2 r j) = Weights.weight 16 (simRow keys beta mem age r) j := by
  rw [blockWeights, sixteen, weights _ _ no_marks _ (greatest_apply keys beta mem age)]
  exact congrArg (Weights.weight 16 · j) (funext fun i => sims_apply keys beta mem age r i)

/-- … as stored. -/
theorem storedWeights_apply (r : Fin 8) (j : Fin 8192) :
    k0_pay49 (k0_pay10 keys beta mem age) cols (k0_pay12 keys beta mem age)
      (mask cols (k0_pay10 keys beta mem age) k0_pay11 14) (work cols (k0_pay10 keys beta mem age) 14)
      (rowMax (work cols (k0_pay10 keys beta mem age) 14)) (ix3 0 r j)
    = Weights.weight 16 (simRow keys beta mem age r) j := by
  rw [← blockWeights_apply]
  pointwise [k0_pay49]
  rfl

/-- The block's compressed values. -/
theorem values_apply (v4 : Vec Ideal S1x8x64 .f32) (v15 : Vec Ideal S64x64 .f32) (v17 : Vec Ideal S1x64 .f32)
    (v29 : Vec Ideal S64x64 .f32) (v31 : Vec Ideal S1x64 .f32) (r : Fin 8) (d : Fin 64) :
    k0_pay6 v4 v15 v17 v29 v31 (ix2 r d) = value (fun x => v4 (ix3 0 r x)) (fun x k => v15 (ix2 x k))
      (fun k => v17 (ix2 0 k)) (fun k d => v29 (ix2 k d)) (fun d => v31 (ix2 0 d)) d := by
  pointwise [k0_pay6]
  rw [named_sqrt2]
  rfl

/-- The memory after the write, before the normalization. -/
theorem fused_apply (erase : FVec Ideal S8x1 .f32) (v38 : FVec Ideal S8x64 .f32) (j : Fin 8192) (d : Fin 64) :
    addf (k0_pay50 erase v38 (k0_pay9 mem) (k0_pay10 keys beta mem age) cols (k0_pay12 keys beta mem age)
      (mask cols (k0_pay10 keys beta mem age) k0_pay11 14) (work cols (k0_pay10 keys beta mem age) 14)
      (rowMax (work cols (k0_pay10 keys beta mem age) 14))) k0_pay51 (ix2 j d)
    = ((mem (ix3 0 j d) - mem (ix3 0 j d) * ∑ h, Weights.weight 16 (simRow keys beta mem age h) j
          * (erase (ix2 h 0) * Ideal.ofBits .f32 0x3E000000#32))
        + ∑ h, Weights.weight 16 (simRow keys beta mem age h) j * v38 (ix2 h d)) + ε8 := by
  simp only [← blockWeights_apply]
  pointwise [k0_pay50, k0_pay51, k0_pay9]
  rfl

theorem gated_apply (gate : FVec Ideal S8x1 .f32) (v : FVec Ideal S8x64 .f32) (r : Fin 8) (d : Fin 64) :
    k0_pay7 gate v (Scalar.ofBits .f32 0x3E000000#32) (ix2 r d)
      = v (ix2 r d) * (gate (ix2 r 0) * Ideal.ofBits .f32 0x3E000000#32) := by
  pointwise [k0_pay7]

/-- The stored row: normalized and scaled. -/
theorem stored_apply (a b : FVec Ideal S8192x64 .f32) (decay : Vec Ideal S1x8192 .f32) (j : Fin 8192) (d : Fin 64) :
    k0_pay1 k0_pay8 a b decay (ix3 0 j d) = addf a b (ix2 j d)
      * Ideal.div (Ideal.logistic (decay (ix2 0 j))) (Algebra.norm ε12 fun i => addf a b (ix2 j i)) := by
  pointwise [k0_pay1, k0_pay8]
  rfl

end Cert.KernelIdeal.Block

end
-- ==== Proof.KernelArray.lean ====
/- The kernel's two result arrays after the run: block by block, each grid point's batch, in terms of the arguments. -/
module

public import proofs.«01_k».proof.Proof.KernelBlock
public import Idealize.ShloMosaic.Lib.Pipeline.ValueKit

@[expose] public section

set_option maxRecDepth 16384

noncomputable section

namespace Cert.KernelIdeal.Array

open Cert.KernelIdeal Cert.KernelIdeal.Gen Idealize.ShloMosaic Idealize.ShloMosaic.TcCoe Idealize.SL.Sem
open Cert.KernelIdeal.Rounds Cert.KernelIdeal.Block Cert.Spec

variable (m : (ℓ : Loc nD τ sig) → Buf (Elt Ideal) ℓ)

/-- The kernel's arguments on device `c`, read at an index. -/
def args (c : Dev nD) : Args where
  mem b j d := m ((c : Thread nD τ).loc main_arg0) (ix3 b j d)
  keys b h d := m ((c : Thread nD τ).loc main_arg1) (ix3 b h d)
  vals b h d := m ((c : Thread nD τ).loc main_arg2) (ix3 b h d)
  erase b h := m ((c : Thread nD τ).loc main_arg3) (ix2 b h)
  gate b h := m ((c : Thread nD τ).loc main_arg4) (ix2 b h)
  beta b h := m ((c : Thread nD τ).loc main_arg5) (ix2 b h)
  w1 i k := m ((c : Thread nD τ).loc main_arg6) (ix2 i k)
  b1 k := m ((c : Thread nD τ).loc main_arg7) (ix1 k)
  w2 k d := m ((c : Thread nD τ).loc main_arg8) (ix2 k d)
  b2 d := m ((c : Thread nD τ).loc main_arg9) (ix1 d)
  decay j := m ((c : Thread nD τ).loc main_arg10) (ix1 j)
  age j := m ((c : Thread nD τ).loc main_arg11) (ix2 0 j)

/-! ## Where the blocks lie -/

/-- The batch of a grid point. -/
def batch (t : Fin cfg0.N) : Fin 8 := ⟨t.val, (by decide +kernel : ∀ t : Fin cfg0.N, t.val < 8) t⟩

theorem places : ∀ t : Fin cfg0.N, win0_0.index t = ![t.val, 0, 0] ∧ win0_12.index t = ![t.val, 0, 0]
    ∧ win0_13.index t = ![t.val, 0, 0] := by decide +kernel

theorem offs : ∀ t : Fin cfg0.N, k0_off1 (grid0.coords t) = ![t.val, 0, 0] ∧ k0_off2 (grid0.coords t) = ![t.val, 0, 0] := by
  decide +kernel

theorem whole : ∀ t : Fin cfg0.N, win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0] ∧ win0_7.index t = ![0, 0]
    ∧ win0_8.index t = ![0, 0] ∧ win0_9.index t = ![0, 0] ∧ win0_10.index t = ![0, 0] ∧ win0_11.index t = ![0, 0] := by
  decide +kernel

/-! ## The blocks a grid point reads -/

variable (c : Dev nD) (t : Fin cfg0.N)

theorem read_mem (j : Fin 8192) (d : Fin 64) : iblk m c 0 t (ix3 0 j d) = (args m c).mem (batch t) j d := by
  unfold args batch
  blk_ext [iblk, V, places t]
theorem read_keys (b h : Fin 8) (d : Fin 64) : iblk m c 1 t (ix3 b h d) = (args m c).keys b h d := by
  unfold args
  blk_ext [iblk, V, whole t]
theorem read_vals (b h : Fin 8) (d : Fin 64) : iblk m c 2 t (ix3 b h d) = (args m c).vals b h d := by
  unfold args
  blk_ext [iblk, V, whole t]
theorem read_erase (b h : Fin 8) : iblk m c 3 t (ix3 b h 0) = (args m c).erase b h := by
  have e : iblk m c 3 t (ix3 b h 0) = V m c main_call0_v0 (ix3 b h 0) := by
    unfold iblk
    blk_ext [whole t]
  rw [e]
  unfold args
  entry_read
  show broadcastInDim S8x8x1 ![0, 1] bcast_S8x8_S8x8x1_0_1 (m ((c : Thread nD τ).loc main_arg3)) (ix3 b h 0) = _
  pointwise
theorem read_gate (b h : Fin 8) : iblk m c 4 t (ix3 b h 0) = (args m c).gate b h := by
  have e : iblk m c 4 t (ix3 b h 0) = V m c main_call0_v1 (ix3 b h 0) := by
    unfold iblk
    blk_ext [whole t]
  rw [e]
  unfold args
  entry_read
  show broadcastInDim S8x8x1 ![0, 1] bcast_S8x8_S8x8x1_0_1 (m ((c : Thread nD τ).loc main_arg4)) (ix3 b h 0) = _
  pointwise
theorem read_beta (b h : Fin 8) : iblk m c 5 t (ix3 b h 0) = (args m c).beta b h := by
  have e : iblk m c 5 t (ix3 b h 0) = V m c main_call0_v2 (ix3 b h 0) := by
    unfold iblk
    blk_ext [whole t]
  rw [e]
  unfold args
  entry_read
  show broadcastInDim S8x8x1 ![0, 1] bcast_S8x8_S8x8x1_0_1 (m ((c : Thread nD τ).loc main_arg5)) (ix3 b h 0) = _
  pointwise
theorem read_w1 (i k : Fin 64) : iblk m c 6 t (ix2 i k) = (args m c).w1 i k := by
  unfold args
  blk_ext [iblk, V, whole t]
theorem read_b1 (k : Fin 64) : iblk m c 7 t (ix2 0 k) = (args m c).b1 k := by
  unfold args
  blk_point [iblk, V, whole t]
theorem read_w2 (k d : Fin 64) : iblk m c 8 t (ix2 k d) = (args m c).w2 k d := by
  unfold args
  blk_ext [iblk, V, whole t]
theorem read_b2 (d : Fin 64) : iblk m c 9 t (ix2 0 d) = (args m c).b2 d := by
  unfold args
  blk_point [iblk, V, whole t]
theorem read_decay (j : Fin 8192) : iblk m c 10 t (ix2 0 j) = (args m c).decay j := by
  unfold args
  blk_point [iblk, V, whole t]
theorem read_age (j : Fin 8192) : iblk m c 11 t (ix2 0 j) = (args m c).age j := by
  unfold args
  blk_ext [iblk, V, whole t]

/-! ## The slices of a batch -/

/-- The batch's keys, values and per-head numbers, as the body loads them. -/
abbrev ldKeys : FVec Ideal S8x64 .f32 :=
  k0_pay2 (View.ld (iblk m c 1 t) (Rect.unit (s := S8x8x64) (k0_off1 (grid0.coords t)) S1x8x64.size (k0_off1_inb (grid0.coords t))))
abbrev ldVals : Vec Ideal S1x8x64 .f32 :=
  View.ld (iblk m c 2 t) (Rect.unit (s := S8x8x64) (k0_off1 (grid0.coords t)) S1x8x64.size (k0_off1_inb (grid0.coords t)))
abbrev ldErase : FVec Ideal S8x1 .f32 :=
  k0_pay3 (View.ld (iblk m c 3 t) (Rect.unit (s := S8x8x1) (k0_off2 (grid0.coords t)) S1x8x1.size (k0_off2_inb (grid0.coords t))))
abbrev ldGate : FVec Ideal S8x1 .f32 :=
  k0_pay4 (View.ld (iblk m c 4 t) (Rect.unit (s := S8x8x1) (k0_off2 (grid0.coords t)) S1x8x1.size (k0_off2_inb (grid0.coords t))))
abbrev ldBeta : FVec Ideal S8x1 .f32 :=
  k0_pay5 (View.ld (iblk m c 5 t) (Rect.unit (s := S8x8x1) (k0_off2 (grid0.coords t)) S1x8x1.size (k0_off2_inb (grid0.coords t))))

theorem slice_keys (r : Fin 8) (x : Fin 64) : ldKeys m c t (ix2 r x) = (args m c).keys (batch t) r x := by
  rw [← read_keys m c t]
  pointwise [k0_pay2]
  blk_ext [offs t, batch]
theorem slice_vals (r : Fin 8) (x : Fin 64) : ldVals m c t (ix3 0 r x) = (args m c).vals (batch t) r x := by
  rw [← read_vals m c t]
  unfold ldVals
  pointwise
  blk_ext [offs t, batch]
theorem slice_erase (r : Fin 8) : ldErase m c t (ix2 r 0) = (args m c).erase (batch t) r := by
  rw [← read_erase m c t]
  pointwise [k0_pay3]
  blk_ext [offs t, batch]
theorem slice_gate (r : Fin 8) : ldGate m c t (ix2 r 0) = (args m c).gate (batch t) r := by
  rw [← read_gate m c t]
  pointwise [k0_pay4]
  blk_ext [offs t, batch]
theorem slice_beta (r : Fin 8) : ldBeta m c t (ix2 r 0) = (args m c).beta (batch t) r := by
  rw [← read_beta m c t]
  pointwise [k0_pay5]
  blk_ext [offs t, batch]

/-- The batch's similarities. -/
theorem simRow_eq (r : Fin 8) : simRow (ldKeys m c t) (ldBeta m c t) (iblk m c 0 t) (iblk m c 11 t) r
    = sim ((args m c).keys (batch t) r) ((args m c).beta (batch t) r) ((args m c).mem (batch t)) (args m c).age := by
  unfold simRow
  rw [slice_beta]
  congr 1
  · exact funext fun x => slice_keys m c t r x
  · exact funext fun j => funext fun x => read_mem m c t j x
  · exact funext fun j => read_age m c t j

/-- The batch's weights. -/
theorem weight_eq (r : Fin 8) (j : Fin 8192) :
    Weights.weight 16 (simRow (ldKeys m c t) (ldBeta m c t) (iblk m c 0 t) (iblk m c 11 t) r) j
      = wt (args m c) (batch t) r j := by
  rw [simRow_eq]
  rfl

/-- The batch's compressed values. -/
theorem value_eq (r : Fin 8) (d : Fin 64) :
    k0_pay6 (ldVals m c t) (iblk m c 6 t) (iblk m c 7 t) (iblk m c 8 t) (iblk m c 9 t) (ix2 r d)
      = val (args m c) (batch t) r d := by
  rw [values_apply, val]
  congr 1
  · exact funext fun x => slice_vals m c t r x
  · exact funext fun x => funext fun k => read_w1 m c t x k
  · exact funext fun k => read_b1 m c t k
  · exact funext fun x => funext fun k => read_w2 m c t x k
  · exact funext fun k => read_b2 m c t k

/-- The batch's memory after the write, less the constant of the normalization. -/
abbrev wrote : FVec Ideal S8192x64 .f32 :=
  k0_pay50 (ldErase m c t)
      (k0_pay7 (ldGate m c t) (k0_pay6 (ldVals m c t) (iblk m c 6 t) (iblk m c 7 t) (iblk m c 8 t) (iblk m c 9 t))
        (Scalar.ofBits .f32 0x3E000000#32))
      (k0_pay9 (iblk m c 0 t)) (k0_pay10 (ldKeys m c t) (ldBeta m c t) (iblk m c 0 t) (iblk m c 11 t)) cols
      (k0_pay12 (ldKeys m c t) (ldBeta m c t) (iblk m c 0 t) (iblk m c 11 t))
      (mask cols (k0_pay10 (ldKeys m c t) (ldBeta m c t) (iblk m c 0 t) (iblk m c 11 t)) k0_pay11 14)
      (work cols (k0_pay10 (ldKeys m c t) (ldBeta m c t) (iblk m c 0 t) (iblk m c 11 t)) 14)
      (rowMax (work cols (k0_pay10 (ldKeys m c t) (ldBeta m c t) (iblk m c 0 t) (iblk m c 11 t)) 14))

theorem fused_eq (j : Fin 8192) (d : Fin 64) : addf (wrote m c t) k0_pay51 (ix2 j d) = fused (args m c) (batch t) j d := by
  refine (fused_apply (ldKeys m c t) (ldBeta m c t) (iblk m c 0 t) (iblk m c 11 t) (ldErase m c t) _ j d).trans ?_
  simp only [weight_eq, gated_apply, value_eq]
  rw [fused, read_mem]
  congr 2
  · simp only [slice_erase]
  · simp only [slice_gate]

/-- The batch's memory as stored. -/
theorem stored_eq (j : Fin 8192) (d : Fin 64) :
    k0_pay1 k0_pay8 (wrote m c t) k0_pay51 (iblk m c 10 t) (ix3 0 j d) = written (args m c) (batch t) j d := by
  rw [stored_apply, fused_eq, read_decay, written]
  congr 3
  exact funext fun i => fused_eq m c t j i

/-! ## The result arrays -/

/-- The weights the kernel leaves. -/
def weightsOut (i : S8x8x8192.Idx) : EReal := wt (args m c) (i 0) (i 1) (i 2)

/-- The memory the kernel leaves. -/
def memoryOut (i : S8x8192x64.Idx) : EReal := written (args m c) (i 0) (i 1) (i 2)

set_option maxHeartbeats 4000000 in
theorem weights_array : (dats m 0 c).arrAt 13 cfg0.N = weightsOut m c := by
  refine (dats m 0 c).arrAt_eq_of_covers 13 _ (by decide +kernel) fun t hf y => ?_
  have hy : y = ix3 0 (y 1) (y 2) := by
    rw [eq_ix3 y]
    exact congrArg (ix3 · (y 1) (y 2)) (Fin.fin_one_eq_zero _)
  have he : ((View.whole main_v0_1).slice (win0_13.rect t)).emb y = ix3 (batch t) (y 1) (y 2) := by
    blk_ext [places t, batch]
  blk_simp
  rw [after0_13]
  unfold outsAt0
  frame_out
  rw [he, hy, show iota Kind.tc S8x8192 32 [1] iota_S8x8192_d1_w32 = cols from rfl]
  simp only [marks_seven, block_seven, marks_ten, block_ten, numbers_ten, marks_fourteen, block_fourteen, greatest_fourteen]
  exact (storedWeights_apply (ldKeys m c t) (ldBeta m c t) (iblk m c 0 t) (iblk m c 11 t) (y 1) (y 2)).trans
    (weight_eq m c t (y 1) (y 2))

set_option maxHeartbeats 4000000 in
theorem memory_array : (dats m 0 c).arrAt 12 cfg0.N = memoryOut m c := by
  refine (dats m 0 c).arrAt_eq_of_covers 12 _ (by decide +kernel) fun t hf y => ?_
  have hy : y = ix3 0 (y 1) (y 2) := by
    rw [eq_ix3 y]
    exact congrArg (ix3 · (y 1) (y 2)) (Fin.fin_one_eq_zero _)
  have he : ((View.whole main_v0_0).slice (win0_12.rect t)).emb y = ix3 (batch t) (y 1) (y 2) := by
    blk_ext [places t, batch]
  blk_simp
  rw [after0_12]
  unfold outsAt0
  frame_out
  rw [he, hy, show iota Kind.tc S8x8192 32 [1] iota_S8x8192_d1_w32 = cols from rfl]
  simp only [marks_seven, block_seven, marks_ten, block_ten, numbers_ten, marks_fourteen, block_fourteen, greatest_fourteen]
  exact (stored_eq m c t (y 1) (y 2))

end Cert.KernelIdeal.Array

end
-- ==== Proof.RefMask.lean ====
/- The reference's mask read at an index: the first sixteen places of a stable sort, greater first, written into a
   zero mask, are the places of rank less than sixteen. -/
module

public import proofs.«01_k».proof.Proof.Gen.ReferenceIdeal.Run
public import proofs.«01_k».proof.Proof.Spec
public import Idealize.ShloMosaic.Lib.Pointwise
public import Idealize.ShloMosaic.Lib.Pointwise.IndexBridge
public import Idealize.ShloMosaic.Lib.Tactic.CleanTypes
public import Idealize.ShloMosaic.Lib.Routing.OpsSet
public import Idealize.ShloMosaic.Lib.Routing.OpsPair

@[expose] public section

set_option maxRecDepth 16384

noncomputable section

namespace Cert.ReferenceIdeal.Mask

open Cert.ReferenceIdeal Cert.ReferenceIdeal.Gen Cert.ReferenceIdeal.Value Idealize.ShloMosaic Idealize.ShloMosaic.TcCoe
open Idealize.SL.Sem Idealize.ShloMosaic.StableHlo Cert.Rank

variable (V0 : Valuation τ sig (Elt Ideal))

/-- The similarities of row `p`. -/
def sims (p : Fin 64) (j : Fin 8192) : EReal := res_main_v39 V0 (ix2 p j)

/-- The sort's order: greater first. -/
def before (s : Fin 8192 → EReal) (i j : Fin 8192) : Bool :=
  FloatOps.cmpfTotal (F := Ideal) (φ := .f32) .gt (s i) (s j) == 1#1

theorem before_iff (s : Fin 8192 → EReal) (i j : Fin 8192) : before s i j = true ↔ s j < s i := by
  show (BitVec.ofBool (decide (s j < s i)) == 1#1) = true ↔ _
  by_cases h : s j < s i <;> simp [h]

theorem toInt_word (n : ℕ) (h : n ≤ 8192) : (BitVec.ofNat 32 n).toInt = (n : ℤ) := by
  rw [BitVec.toInt_eq_toNat_cond, BitVec.toNat_ofNat, Nat.mod_eq_of_lt (by omega), if_pos (by omega)]

/-- An index that is not negative is not shifted. -/
theorem select_word (n : ℕ) (h : n ≤ 8192) (y : BitVec 32) :
    (Scalar.select (IntOp.cmpi .slt (BitVec.ofNat 32 n) 0#32) y (BitVec.ofNat 32 n)).toInt = (n : ℤ) := by
  have e : (BitVec.ofNat 32 n).slt 0#32 = false := by
    rw [BitVec.slt_eq_decide, toInt_word n h]
    exact decide_eq_false (by simp)
  have e' : IntOp.cmpi .slt (BitVec.ofNat 32 n) 0#32 = 0#1 := by
    show BitVec.ofBool ((BitVec.ofNat 32 n).slt 0#32) = 0#1
    rw [e]
    rfl
  rw [e', ← toInt_word n h]
  rfl

/-- The second result of a sort of two operands along the columns of a matrix, at an index. -/
theorem sort2_snd_apply {α β : Type} {R C : ℕ} (cmp : α × β → α × β → BitVec 1)
    (x : (⟨2, ![R, C]⟩ : Shape).Idx → α) (y : (⟨2, ![R, C]⟩ : Shape).Idx → β) (p : Fin R) (k : Fin C) :
    (Host.sort2 ⟨2, ![R, C]⟩ 1 cmp x y).2 (ix2 p k) = y (ix2 p (sortedFrom (fun i j : Fin C =>
      cmp (x (ix2 p i), y (ix2 p i)) (x (ix2 p j), y (ix2 p j)) == 1#1) k)) := by
  have e : ∀ i : Fin C, (ix2 p k : (⟨2, ![R, C]⟩ : Shape).Idx).along 1 i = ix2 p i := by
    intro i
    funext a
    fin_cases a <;> rfl
  unfold Host.sort2
  rw [dif_pos (show 1 < (⟨2, ![R, C]⟩ : Shape).rank from Nat.one_lt_two)]
  show y ((ix2 p k : (⟨2, ![R, C]⟩ : Shape).Idx).along 1 (sortedFrom (fun i j : Fin C =>
    cmp (x ((ix2 p k : (⟨2, ![R, C]⟩ : Shape).Idx).along 1 i), y ((ix2 p k : (⟨2, ![R, C]⟩ : Shape).Idx).along 1 i))
      (x ((ix2 p k : (⟨2, ![R, C]⟩ : Shape).Idx).along 1 j), y ((ix2 p k : (⟨2, ![R, C]⟩ : Shape).Idx).along 1 j)) == 1#1) k)) = _
  simp only [e]
  exact congrArg y (e _)

/-- The places a top-k along the columns of a matrix returns, as words. -/
theorem topK_snd_apply {α : Type} {R C K : ℕ} (gt : α → α → BitVec 1) (x : (⟨2, ![R, C]⟩ : Shape).Idx → α)
    (h : (⟨2, ![R, C]⟩ : Shape).Slices (fun _ => 0) ⟨2, ![R, K]⟩) (p : Fin R) (r : Fin K) (hr : r.val < C) :
    (Host.topK ⟨2, ![R, K]⟩ 1 gt x h).2 (ix2 p r)
      = BitVec.ofNat 32 (sortedFrom (fun i j : Fin C => gt (x (ix2 p i)) (x (ix2 p j)) == 1#1) ⟨r.val, hr⟩).val := by
  have e : (fun a : Fin 2 => (⟨0 + ((ix2 p r : (⟨2, ![R, K]⟩ : Shape).Idx) (a.cast h.1.symm)).val,
      Nat.lt_of_lt_of_le (Nat.add_lt_add_left ((ix2 p r : (⟨2, ![R, K]⟩ : Shape).Idx) _).isLt _) (h.2 a)⟩ :
        Fin ((⟨2, ![R, C]⟩ : Shape).size a))) = ix2 p ⟨r.val, hr⟩ := by
    funext a
    fin_cases a
    · exact Fin.ext (Nat.zero_add p.val)
    · exact Fin.ext (Nat.zero_add r.val)
  refine (congrArg (Host.sort2 ⟨2, ![R, C]⟩ 1 (fun l r : α × BitVec 32 => gt l.1 r.1) x fun i =>
    if hd : 1 < (⟨2, ![R, C]⟩ : Shape).rank then iotaInDim ⟨2, ![R, C]⟩ 32 ⟨1, hd⟩ i else 0#32).2 e).trans ?_
  rw [sort2_snd_apply]
  rfl

/-- The place of the `r`-th of row `p`, as a word. -/
theorem indices_apply (p : Fin 64) (r : Fin 16) :
    res_main_indices V0 (ix2 p r)
      = BitVec.ofNat 32 (sortedFrom (before (sims V0 p)) (⟨r.val, by omega⟩ : Fin 8192)).val :=
  topK_snd_apply (FloatOps.cmpfTotal (F := Ideal) (φ := .f32) .gt) (res_main_v39 V0) sliceFits_S64x8192_S64x16 p r (by omega)

/-- The index words of the scatter: a row word and a column word each. -/
def words : IVec S64x16x2 32 :=
  concatenate S64x16x2 2 [⟨S64x16x1, (broadcastInDim S64x16x1 ![0, 1] bcast_S64x16_S64x16x1_0_1 (broadcastInDim S64x16 ![0, 1] bcast_S64x1_S64x16_0_1 (select (cmpi .slt (res_main_v42 V0) (broadcastInDim S64x1 ![] bcast_S_S64x1 (constantI S_ 32 0#32))) (addi (res_main_v42 V0) (broadcastInDim S64x1 ![] bcast_S_S64x1 (constantI S_ 32 64#32))) (res_main_v42 V0))))⟩, ⟨S64x16x1, (broadcastInDim S64x16x1 ![0, 1] bcast_S64x16_S64x16x1_0_1 (select (cmpi .slt (res_main_indices V0) (broadcastInDim S64x16 ![] bcast_S_S64x16 (constantI S_ 32 0#32))) (addi (res_main_indices V0) (broadcastInDim S64x16 ![] bcast_S_S64x16 (constantI S_ 32 8192#32))) (res_main_indices V0)))⟩] concatenates_S64x16x1_S64x16x1_S64x16x2_d2

theorem words_row (p : Fin 64) (r : Fin 16) : (words V0 (ix3 p r 0)).toInt = p.val := by
  unfold words res_main_v42
  clean_types
  pointwise
  exact select_word p.val (by omega) _

theorem words_col (p : Fin 64) (r : Fin 16) : (words V0 (ix3 p r 1)).toInt
    = (sortedFrom (before (sims V0 p)) (⟨r.val, by omega⟩ : Fin 8192)).val := by
  unfold words
  clean_types
  pointwise
  rw [indices_apply]
  exact select_word _ (Fin.isLt _).le _

theorem mask_eq : res_main_v58 V0 = Host.scatter scatter_S64x8192_S64x16x2_S64x16_n_01_01_2 (fun _ b => b)
    (broadcastInDim S64x8192 ![] bcast_S_S64x8192 (constantI S_ 1 0#1)) (words V0)
    (broadcastInDim S64x16 ![] bcast_S_S64x16 (constantI S_ 1 1#1)) := rfl

/-- Where the updates land. -/
theorem lands (p : Fin 64) (r : Fin 16) (q : Fin 64) (j : Fin 8192) :
    scatter_S64x8192_S64x16x2_S64x16_n_01_01_2.resultIdx? (ix2 p r) (words V0) = some (ix2 q j)
      ↔ p = q ∧ sortedFrom (before (sims V0 p)) (⟨r.val, by omega⟩ : Fin 8192) = j := by
  have h := Routing.scatter_lands2 scatter_S64x8192_S64x16x2_S64x16_n_01_01_2 rfl rfl rfl (words V0) p r q j
  rw [← ix2_eq_valueIdx, ← ix2_eq_valueIdx, ← ix3_eq_valueIdx, ← ix3_eq_valueIdx] at h
  refine h.trans (and_congr ?_ ?_)
  · rw [words_row]
    exact ⟨fun e => Fin.ext (by exact_mod_cast e), fun e => by rw [e]⟩
  · rw [words_col]
    exact ⟨fun e => Fin.ext (by exact_mod_cast e), fun e => by rw [e]⟩

/-- The mask holds the places of rank less than sixteen. -/
theorem mask_apply (p : Fin 64) (j : Fin 8192) :
    res_main_v58 V0 (ix2 p j) = if rank (sims V0 p) j < 16 then 1#1 else 0#1 := by
  rw [mask_eq]
  by_cases h : rank (sims V0 p) j < 16
  · obtain ⟨r, hr, e⟩ := (exists_sortedFrom_iff _ _ (before_iff (sims V0 p)) 16 j).2 h
    rw [if_pos h]
    exact Routing.scatter_set_hit _ _ _ _ _ 1#1 (fun _ _ => rfl) (ix2 p (⟨r.val, hr⟩ : Fin 16))
      ((lands V0 p ⟨r.val, hr⟩ p j).2 ⟨rfl, e⟩)
  · rw [if_neg h]
    refine Routing.scatter_set_miss _ _ _ _ _ fun k hk => h ?_
    rw [eq_ix2 k] at hk
    obtain ⟨e1, e2⟩ := (lands V0 (k 0) (k 1) p j).1 hk
    have h16 : (k 1).val < 16 := (k 1).isLt
    rw [← e1]
    exact (exists_sortedFrom_iff _ _ (before_iff (sims V0 (k 0))) 16 j).1 ⟨⟨(k 1).val, h16.trans (by decide)⟩, h16, e2⟩

end Cert.ReferenceIdeal.Mask

end
-- ==== Proof.RefRead.lean ====
/- The reference's two results read at an index, in terms of the arguments. -/
module

public import proofs.«01_k».proof.Proof.RefMask

@[expose] public section

set_option maxRecDepth 16384

noncomputable section

namespace Cert.ReferenceIdeal.Read

open Cert.ReferenceIdeal Cert.ReferenceIdeal.Gen Cert.ReferenceIdeal.Value Idealize.ShloMosaic Idealize.ShloMosaic.TcCoe
open Idealize.SL.Sem Idealize.ShloMosaic.StableHlo Cert.Spec Cert.Rank Cert.ReferenceIdeal.Mask

variable (V0 : Valuation τ sig (Elt Ideal))

/-- The reference's arguments, read at an index. -/
def args : Args where
  mem b j d := V0 (Proc.devRef .tc main_arg0) (ix3 b j d)
  keys b h d := V0 (Proc.devRef .tc main_arg1) (ix3 b h d)
  vals b h d := V0 (Proc.devRef .tc main_arg2) (ix3 b h d)
  erase b h := V0 (Proc.devRef .tc main_arg3) (ix2 b h)
  gate b h := V0 (Proc.devRef .tc main_arg4) (ix2 b h)
  beta b h := V0 (Proc.devRef .tc main_arg5) (ix2 b h)
  w1 i k := V0 (Proc.devRef .tc main_arg6) (ix2 i k)
  b1 k := V0 (Proc.devRef .tc main_arg7) (ix1 k)
  w2 k d := V0 (Proc.devRef .tc main_arg8) (ix2 k d)
  b2 d := V0 (Proc.devRef .tc main_arg9) (ix1 d)
  decay j := V0 (Proc.devRef .tc main_arg10) (ix1 j)
  age j := V0 (Proc.devRef .tc main_arg11) (ix2 0 j)

/-! ## The similarities -/

theorem age_apply (j : Fin 8192) : res_main_v1 V0 (ix2 0 j) = (args V0).age j + 1 := by
  unfold res_main_v1
  clean_types
  pointwise
  rfl

theorem greatest_age : Finset.univ.fold max (Ideal.ofBits .f32 0xFF800000#32)
    (fun k : Fin 1 × Fin 8192 => res_main_v1 V0 (ix2 k.1 k.2)) = Weights.top fun j => (args V0).age j + 1 := by
  rw [← Weights.fold_pair]
  congr 1
  funext k
  rw [Fin.fin_one_eq_zero k.1, age_apply]

/-- The similarities of row `p`: those of head `p % 8` of batch `p / 8`. -/
theorem sims_apply (p : Fin 64) (j : Fin 8192) : sims V0 p j
    = sim ((args V0).keys ⟨p.val / 8, by omega⟩ ⟨p.val % 8, by omega⟩) ((args V0).beta ⟨p.val / 8, by omega⟩ ⟨p.val % 8, by omega⟩)
      ((args V0).mem ⟨p.val / 8, by omega⟩) (args V0).age j := by
  unfold sims res_main_v39
  clean_types
  pointwise
  rw [greatest_age, age_apply]
  rfl

/-! ## The weights -/

theorem masked_apply (p : Fin 64) (j : Fin 8192) : res_main_v59 V0 (ix2 p j) = Weights.masked 16 (sims V0 p) j := by
  unfold res_main_v59
  clean_types
  pointwise
  rw [mask_apply, Weights.masked]
  by_cases h : rank (sims V0 p) j < 16
  · rw [if_pos h, if_pos h]
    rfl
  · rw [if_neg h, if_neg h, ← Consts.negInf]
    rfl

theorem part_apply (p : Fin 64) (j : Fin 8192) : res_main_v66 V0 (ix2 p j) = Weights.part 16 (sims V0 p) j := by
  unfold res_main_v66
  clean_types
  pointwise
  simp only [masked_apply]
  rw [Consts.negInf]
  exact Weights.part_of_masked (by norm_num) (sims V0 p) j

/-- The reference's second result. -/
def weightsOut : FVec Ideal S8x8x8192 .f32 :=
  shapeCast S8x8x8192 (Host.divf (res_main_v66 V0) (broadcastInDim S64x8192 ![0, 1] bcast_S64x1_S64x8192_0_1 (broadcastInDim S64x1 ![0] bcast_S64_S64x1_0 (Host.reduceAdd (res_main_v66 V0) (constant S_ .f32 0x00000000#32) reducesTo_S64x8192_S64_d1 h_S_)))) shapeCasts_S64x8192_S8x8x8192

/-- The row of a head. -/
def place (b h : Fin 8) : Fin 64 := ⟨b.val * 8 + h.val, by omega⟩

theorem share_eq (b h : Fin 8) (j : Fin 8192) :
    Ideal.div (Weights.part 16 (sims V0 (place b h)) j) (∑ i, Weights.part 16 (sims V0 (place b h)) i) = wt (args V0) b h j := by
  have e1 : (⟨(place b h).val / 8, by omega⟩ : Fin 8) = b := Fin.ext (by show (b.val * 8 + h.val) / 8 = _; omega)
  have e2 : (⟨(place b h).val % 8, by omega⟩ : Fin 8) = h := Fin.ext (by show (b.val * 8 + h.val) % 8 = _; omega)
  have e : sims V0 (place b h) = sim ((args V0).keys b h) ((args V0).beta b h) ((args V0).mem b) (args V0).age := by
    funext i
    rw [sims_apply, e1, e2]
  rw [e]
  rfl

theorem weightsOut_apply (b h : Fin 8) (j : Fin 8192) : weightsOut V0 (ix3 b h j) = wt (args V0) b h j := by
  unfold weightsOut
  clean_types
  pointwise
  simp only [part_apply]
  exact share_eq V0 b h j

theorem spread_apply (b h : Fin 8) (j : Fin 8192) : res_main_v73 V0 (ix4 b h j 0) = wt (args V0) b h j := by
  unfold res_main_v73
  clean_types
  pointwise
  simp only [part_apply]
  exact share_eq V0 b h j

/-! ## The memory -/

theorem hidden_apply (b h : Fin 8) (k : Fin 64) :
    res_main_v5 V0 (ix3 b h k) = ∑ x, (args V0).vals b h x * (args V0).w1 x k + (args V0).b1 k := by
  unfold res_main_v5
  clean_types
  pointwise
  rfl

theorem mean_apply (b : Fin 8) (j : Fin 8192) (d : Fin 64) : res_main_v95 V0 (ix3 b j d) = mean (args V0) b j d := by
  unfold res_main_v95
  clean_types
  pointwise
  simp only [spread_apply, gelu_eq, hidden_apply]
  rfl

/-- The reference's first result. -/
def memoryOut : FVec Ideal S8x8192x64 .f32 :=
  mulf (Host.divf (res_main_v95 V0) (broadcastInDim S8x8192x64 ![0, 1, 2] bcast_S8x8192x1_S8x8192x64_0_1_2 (maximumf (Host.sqrt (broadcastInDim S8x8192x1 ![0, 1] bcast_S8x8192_S8x8192x1_0_1 (Host.reduceAdd (mulf (res_main_v95 V0) (res_main_v95 V0)) (constant S_ .f32 0x00000000#32) reducesTo_S8x8192x64_S8x8192_d2 h_S_))) (broadcastInDim S8x8192x1 ![] bcast_S_S8x8192x1 (constant S_ .f32 0x2B8CBCCC#32))))) (broadcastInDim S8x8192x64 ![0, 1, 2] bcast_S1x8192x1_S8x8192x64_0_1_2 (shapeCast S1x8192x1 (Host.divf (broadcastInDim S8192 ![] bcast_S_S8192 (constant S_ .f32 0x3F800000#32)) (addf (broadcastInDim S8192 ![] bcast_S_S8192 (constant S_ .f32 0x3F800000#32)) (Host.exp (Host.negf (V0 (Proc.devRef .tc main_arg10)))))) shapeCasts_S8192_S1x8192x1))

theorem memoryOut_apply (b : Fin 8) (j : Fin 8192) (d : Fin 64) : memoryOut V0 (ix3 b j d)
    = Ideal.div (mean (args V0) b j d) (Algebra.norm ε12 (mean (args V0) b j)) * Ideal.logistic ((args V0).decay j) := by
  unfold memoryOut
  clean_types
  pointwise
  simp only [mean_apply]
  rfl

end Cert.ReferenceIdeal.Read

end
-- ==== Proof.Equation.lean ====
/- The equation of the two programs' results, from the precondition and the agreement of their arguments. -/
module

public import proofs.«01_k».proof.Defs
public import proofs.«01_k».proof.Proof.KernelArray
public import proofs.«01_k».proof.Proof.RefRead
public import Idealize.ShloMosaic.Lib.ReduceAll

@[expose] public section

set_option maxRecDepth 16384

noncomputable section

namespace Cert.Equation

open Idealize.ShloMosaic Idealize.ShloMosaic.StableHlo Idealize.SL.Sem Cert.Spec Cert.Algebra

/-- The side conditions of the precondition's operations. -/
theorem preFacts : Cert.Pre_finite_memory.Facts := ⟨by decide, by decide, by decide⟩

/-! ## The memory is finite -/

/-- An extended real whose absolute value is below plus infinity is a real. -/
theorem isReal_of_abs_lt {x : EReal} (h : max x (-x) < ⊤) : IsReal x := by
  obtain ⟨h1, h2⟩ := max_lt_iff.1 h
  by_contra hx
  rcases not_isReal hx with rfl | rfl
  · exact absurd h1 (lt_irrefl _)
  · rw [EReal.neg_bot] at h2
    exact absurd h2 (lt_irrefl _)

/-- A comparison "less than" that came out 1 is one that holds. -/
theorem lt_of_cmp {x y : EReal} (h : Ideal.cmp .olt x y = 1#1) : x < y := by
  by_contra hn
  simp [Ideal.cmp, hn] at h

/-- Under the precondition every entry of the memory is a real. -/
theorem memory_isReal [Cert.Pre_finite_memory.Facts]
    {m : (ℓ : Loc Cert.KernelIdeal.nD Cert.KernelIdeal.τ Cert.KernelIdeal.sig) → Buf (Elt Ideal) ℓ}
    (hm : Cert.Pre_KernelIdeal_finite_memory m) (c : Dev Cert.KernelIdeal.nD) (b : Fin 8) (j : Fin 8192) (d : Fin 64) :
    IsReal ((Cert.KernelIdeal.Array.args m c).mem b j d) := by
  haveI : Subsingleton (Cert.Pre_finite_memory.S_.Idx) := ⟨fun p q => funext fun k => k.elim0⟩
  have h := Host.reduce_andi_all _ _ _ _ _ (congrFun (hm c) (fun k => k.elim0)) (ix3 b j d)
  exact isReal_of_abs_lt (Cert.Consts.posInf ▸ lt_of_cmp h)

/-! ## The results agree -/

section Agree

variable {m : (ℓ : Loc Cert.KernelIdeal.nD Cert.KernelIdeal.τ Cert.KernelIdeal.sig) → Buf (Elt Ideal) ℓ}
  {V0 : Valuation Cert.ReferenceIdeal.τ Cert.ReferenceIdeal.sig (Elt Ideal)} {c : Dev Cert.KernelIdeal.nD}

/-- On equal arguments the weights the two programs leave are the same array. -/
theorem weights_eq (h : Cert.ReferenceIdeal.Read.args V0 = Cert.KernelIdeal.Array.args m c) :
    Cert.ReferenceIdeal.Read.weightsOut V0 = Cert.KernelIdeal.Array.weightsOut m c := by
  funext i
  exact (congrArg _ (eq_ix3 i)).trans ((Cert.ReferenceIdeal.Read.weightsOut_apply V0 (i 0) (i 1) (i 2)).trans (by rw [h]; rfl))

/-- On equal arguments whose memory is finite the memories the two programs leave are the same array. -/
theorem memory_eq (h : Cert.ReferenceIdeal.Read.args V0 = Cert.KernelIdeal.Array.args m c)
    (hx : ∀ b j d, IsReal ((Cert.KernelIdeal.Array.args m c).mem b j d)) :
    Cert.ReferenceIdeal.Read.memoryOut V0 = Cert.KernelIdeal.Array.memoryOut m c := by
  funext i
  refine (congrArg _ (eq_ix3 i)).trans ((Cert.ReferenceIdeal.Read.memoryOut_apply V0 (i 0) (i 1) (i 2)).trans ?_)
  rw [h]
  exact written_eq _ hx (i 0) (i 1) (i 2)

end Agree

/-- The idealized kernel and the idealized reference, run on the same arguments with a finite memory, leave the same
    memory and the same weights. -/
theorem algebraic : Cert.algebraic_KernelIdeal_ReferenceIdeal_pre_finite_memory (hKernelIdeal := Cert.KernelIdeal.Gen.facts)
    (hReferenceIdeal := Cert.ReferenceIdeal.Gen.facts) (hPre_finite_memory := preFacts) := by
  intro m ρ m' ρ' hm hargs
  have ha : ∀ c, Cert.ReferenceIdeal.Read.args (launchContents m' c) = Cert.KernelIdeal.Array.args m c := fun c => by
    obtain ⟨h0, h1, h2, h3, h4, h5, h6, h7, h8, h9, h10, h11⟩ := hargs c
    unfold Cert.ReferenceIdeal.Read.args Cert.KernelIdeal.Array.args
    congr 1
    · funext b j d; exact congrFun h0 _
    · funext b j d; exact congrFun h1 _
    · funext b j d; exact congrFun h2 _
    · funext b j; exact congrFun h3 _
    · funext b j; exact congrFun h4 _
    · funext b j; exact congrFun h5 _
    · funext b j; exact congrFun h6 _
    · funext b; exact congrFun h7 _
    · funext b j; exact congrFun h8 _
    · funext b; exact congrFun h9 _
    · funext b; exact congrFun h10 _
    · funext b; exact congrFun h11 _
  refine ⟨fun c => Cert.KernelIdeal.Array.memoryOut m c, fun c => Cert.KernelIdeal.Array.weightsOut m c, ?_, ?_⟩
  · exact (θ_run Cert.KernelIdeal.defs _ _).mono (fun _ h c => ⟨(h c).1.trans (Cert.KernelIdeal.Array.memory_array m c),
      (h c).2.1.trans (Cert.KernelIdeal.Array.weights_array m c), (h c).2.2⟩) (Cert.KernelIdeal.Value.run_blocks m ρ)
  · exact (θ_run Cert.ReferenceIdeal.defs _ _).mono (fun _ h c =>
      ⟨(h c).1.trans (memory_eq (ha c) (@memory_isReal preFacts m hm c)), (h c).2.1.trans (weights_eq (ha c)), (h c).2.2⟩)
      (Cert.ReferenceIdeal.Value.run m' ρ')

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The idealized reference runs to its end from any memory, leaves its arguments unchanged, and has no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run m ρ)

/-- The runs of the three programs, the named constant, and the equation of both results under a finite memory. -/
theorem claim : Cert.Claim := ⟨Cert.Kernel.Gen.facts, Cert.KernelIdeal.Gen.facts, Cert.ReferenceIdeal.Gen.facts,
  Cert.Equation.preFacts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "sqrt2" .f32 0x3FB504F3#32 ((Real.sqrt 2 : ℝ) : EReal) rfl,
  Cert.Equation.algebraic⟩

end Cert.Proof

end
